-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S512x512 : Shape := ⟨2, ![512, 512]⟩
abbrev S21x64 : Shape := ⟨2, ![21, 64]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : IVec S512x512 32) (main_arg1 : FVec F S21x64 .f32) : IVec S512x512 1 :=
  let main_c : IVec S_ 32 := constantI S_ 32 0#32
  let main_v0 : IVec S512x512 32 := broadcastInDim S512x512 ![] bcast_S_S512x512 main_c
  let main_v1 : IVec S512x512 1 := cmpi .sge main_arg0 main_v0
  let main_c_0 : IVec S_ 32 := constantI S_ 32 21#32
  let main_v2 : IVec S512x512 32 := broadcastInDim S512x512 ![] bcast_S_S512x512 main_c_0
  let main_v3 : IVec S512x512 1 := cmpi .slt main_arg0 main_v2
  let main_v4 : IVec S512x512 1 := andi main_v1 main_v3
  main_v4
-- ==== Kernel.lean ====
abbrev S512x512 : Shape := ⟨2, ![512, 512]⟩
abbrev S21x64 : Shape := ⟨2, ![21, 64]⟩
abbrev S64x8x4x128 : Shape := ⟨4, ![64, 8, 4, 128]⟩
abbrev S64x4x8x128 : Shape := ⟨4, ![64, 4, 8, 128]⟩
abbrev S512x32768 : Shape := ⟨2, ![512, 32768]⟩
abbrev S2x4x8x128 : Shape := ⟨4, ![2, 4, 8, 128]⟩
abbrev S32x64 : Shape := ⟨2, ![32, 64]⟩
abbrev S32768 : Shape := ⟨1, ![32768]⟩
abbrev S_ : Shape := ⟨0, ![]⟩
abbrev S16 : Shape := ⟨1, ![16]⟩
abbrev S1x16 : Shape := ⟨2, ![1, 16]⟩
abbrev S1 : Shape := ⟨1, ![1]⟩
abbrev S1x32768 : Shape := ⟨2, ![1, 32768]⟩
abbrev S1x1x1x16 : Shape := ⟨4, ![1, 1, 1, 16]⟩
abbrev S512 : Shape := ⟨1, ![512]⟩
abbrev S512x8x4x8x128 : Shape := ⟨5, ![512, 8, 4, 8, 128]⟩
abbrev S512x4x128x8x8 : Shape := ⟨5, ![512, 4, 128, 8, 8]⟩
abbrev S512x512x64 : Shape := ⟨3, ![512, 512, 64]⟩

abbrev nBuf : Table → Nat
  | .hbm => 8
  | .local .scVector .vmem => 5
  | _ => 0

abbrev bufTy : (tb : Table) → Fin (nBuf tb) → BufTy
  | .hbm, ⟨0, _⟩ => ⟨S512x512, .i32⟩
  | .hbm, ⟨1, _⟩ => ⟨S21x64, .f32⟩
  | .hbm, ⟨2, _⟩ => ⟨S64x8x4x128, .i32⟩
  | .hbm, ⟨3, _⟩ => ⟨S64x4x8x128, .i32⟩
  | .hbm, ⟨4, _⟩ => ⟨S512x32768, .f32⟩
  | .hbm, ⟨5, _⟩ => ⟨S512x8x4x8x128, .f32⟩
  | .hbm, ⟨6, _⟩ => ⟨S512x4x128x8x8, .f32⟩
  | .hbm, ⟨7, _⟩ => ⟨S512x512x64, .f32⟩
  | .local .scVector .vmem, ⟨0, _⟩ => ⟨S2x4x8x128, .i32⟩
  | .local .scVector .vmem, ⟨1, _⟩ => ⟨S32x64, .f32⟩
  | .local .scVector .vmem, ⟨2, _⟩ => ⟨S32768, .f32⟩
  | .local .scVector .vmem, ⟨3, _⟩ => ⟨S32768, .f32⟩
  | .local .scVector .vmem, ⟨4, _⟩ => ⟨S32768, .f32⟩
  | _, _ => ⟨S512x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_13_r0 : BitVec 32 := 0#32
  let c0_i32_14_r0 : BitVec 32 := 0#32
  let c0_i32_15_r0 : BitVec 32 := 0#32
  ![v3.toNat, 0, 0, 0]

def k0_chk1 (v4 : IVec S16 32) : Prop :=
  (∀ a x, ((![v4, v4] : Fin 2 → IVec S16 32) a x).toNat < S32x64.size a)
theorem k0_idx1_inb : ∀ (v4 : IVec S16 32) (k0_hw1 : k0_chk1 v4), ∀ a x, ((![v4, v4] : Fin 2 → IVec S16 32) a x).toNat < S32x64.size a := fun v4 k0_hw1 => k0_hw1

def k0_chk2 (v6 : IVec S16 32) : Prop :=
  (∀ a x, ((![v6, v6] : Fin 2 → IVec S16 32) a x).toNat < S32x64.size a)
theorem k0_idx2_inb : ∀ (v6 : IVec S16 32) (k0_hw2 : k0_chk2 v6), ∀ a x, ((![v6, v6] : Fin 2 → IVec S16 32) a x).toNat < S32x64.size a := fun v6 k0_hw2 => k0_hw2
@[reducible] def k0_t1_loop : Scf.Loop 32 :=
  let c0_i32_2 : BitVec 32 := 0#32
  let c21_i32_3 : BitVec 32 := 21#32
  let v11 : BitVec 32 := Scalar.addi c0_i32_2 c21_i32_3
  let c1_i32 : BitVec 32 := 1#32
  ⟨c0_i32_2, v11, c1_i32⟩
def k0_off2 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let v25 : Index := Scalar.indexCast arg12
  let c0 : Index := 0#32
  ![v25.toNat, 0]
def k0_off3 (k0_t1 : Fin k0_t1_loop.trips) (c0_i32_14 : BitVec 32) : Fin 1 → Nat :=
  let c16_i32_13 : BitVec 32 := 16#32
  let c0_i32_2 : BitVec 32 := 0#32
  let c1_i32 : BitVec 32 := 1#32
  let arg12 : BitVec 32 := Scf.iv c0_i32_2 c1_i32 k0_t1
  let v30 : BitVec 32 := Scalar.muli c16_i32_13 arg12
  let v31 : BitVec 32 := Scalar.addi c0_i32_14 v30
  let v32 : Index := Scalar.indexCast v31
  ![v32.toNat]
def k0_off4 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let v139 : Index := Scalar.indexCast arg12
  let c16 : Index := 16#32
  ![v139.toNat, 16]
def k0_off5 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let v253 : Index := Scalar.indexCast arg12
  let c32 : Index := 32#32
  ![v253.toNat, 32]
def k0_off6 (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let v367 : Index := Scalar.indexCast arg12
  let c48 : Index := 48#32
  ![v367.toNat, 48]
@[reducible] def k0_t2_loop : Scf.Loop 32 :=
  let c0_i32_6 : BitVec 32 := 0#32
  let c8_i32 : BitVec 32 := 8#32
  let v13 : BitVec 32 := Scalar.addi c0_i32_6 c8_i32
  let c1_i32_7 : BitVec 32 := 1#32
  ⟨c0_i32_6, v13, c1_i32_7⟩
def k0_cond1 (k0_t2 : Fin k0_t2_loop.trips) : BitVec 1 :=
  let c0_i32_6 : BitVec 32 := 0#32
  let c1_i32_7 : BitVec 32 := 1#32
  let arg12 : BitVec 32 := Scf.iv c0_i32_6 c1_i32_7 k0_t2
  let c0_i32_15 : BitVec 32 := 0#32
  let v27 : BitVec 1 := Scalar.cmpi .sgt arg12 c0_i32_15
  let v28 : BitVec 32 := Scalar.extui v27
  let c0_i32_16 : BitVec 32 := 0#32
  let v29 : BitVec 1 := Scalar.cmpi .ne v28 c0_i32_16
  v29

def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let c2_i32_34 : BitVec 32 := 2#32
  let v47 : BitVec 32 := Scalar.subi v25 c2_i32_34
  let v48 : BitVec 32 := Scalar.addi v2 v47
  let c0_i32_35 : BitVec 32 := 0#32
  ![v48.toNat, 0]
@[reducible] def k0_t3_loop : Scf.Loop 32 :=
  let c0_i32_18 : BitVec 32 := 0#32
  let c8_i32_19 : BitVec 32 := 8#32
  let v30 : BitVec 32 := Scalar.addi c0_i32_18 c8_i32_19
  let c1_i32_20 : BitVec 32 := 1#32
  ⟨c0_i32_18, v30, c1_i32_20⟩
def k0_off8 (k0_t2 : Fin k0_t2_loop.trips) (k0_t3 : Fin k0_t3_loop.trips) (c0_i32_42 : BitVec 32) : Fin 4 → Nat :=
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let c0_i32_35 : BitVec 32 := 0#32
  let v48 : BitVec 1 := Scalar.cmpi .sgt v25 c0_i32_35
  let v49 : BitVec 32 := Scalar.extui v48
  let c0_i32_36 : BitVec 32 := 0#32
  let v50 : BitVec 1 := Scalar.cmpi .slt v25 c0_i32_36
  let v51 : BitVec 32 := Scalar.extui v50
  let v52 : BitVec 32 := Scalar.subi v49 v51
  let c8_i32_34 : BitVec 32 := 8#32
  let c0_i32_37 : BitVec 32 := 0#32
  let v53 : BitVec 1 := Scalar.cmpi .sgt c8_i32_34 c0_i32_37
  let v54 : BitVec 32 := Scalar.extui v53
  let c0_i32_38 : BitVec 32 := 0#32
  let v55 : BitVec 1 := Scalar.cmpi .slt c8_i32_34 c0_i32_38
  let v56 : BitVec 32 := Scalar.extui v55
  let v57 : BitVec 32 := Scalar.subi v54 v56
  let v58 : BitVec 1 := Scalar.cmpi .ne v52 v57
  let v59 : BitVec 32 := Scalar.remsi v25 c8_i32_34
  let c0_i32_39 : BitVec 32 := 0#32
  let v60 : BitVec 1 := Scalar.cmpi .ne v59 c0_i32_39
  let v61 : BitVec 1 := Scalar.andi v58 v60
  let v47 : BitVec 32 := Scalar.divsi v25 c8_i32_34
  let c1_i32_40 : BitVec 32 := 1#32
  let v62 : BitVec 32 := Scalar.subi v47 c1_i32_40
  let v63 : BitVec 32 := Scalar.select v61 v62 v47
  let v88 : Index := Scalar.indexCast v63
  let c0_i32_18 : BitVec 32 := 0#32
  let c1_i32_20 : BitVec 32 := 1#32
  let arg14 : BitVec 32 := Scf.iv c0_i32_18 c1_i32_20 k0_t3
  let c4_i32 : BitVec 32 := 4#32
  let v66 : BitVec 32 := Scalar.muli arg14 c4_i32
  let v67 : BitVec 32 := Scalar.addi v66 c0_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c8_i32_43 : BitVec 32 := 8#32
  let c0_i32_46 : BitVec 32 := 0#32
  let v74 : BitVec 1 := Scalar.cmpi .sgt c8_i32_43 c0_i32_46
  let v75 : BitVec 32 := Scalar.extui v74
  let c0_i32_47 : BitVec 32 := 0#32
  let v76 : BitVec 1 := Scalar.cmpi .slt c8_i32_43 c0_i32_47
  let v77 : BitVec 32 := Scalar.extui v76
  let v78 : BitVec 32 := Scalar.subi v75 v77
  let v79 : BitVec 1 := Scalar.cmpi .ne v73 v78
  let v80 : BitVec 32 := Scalar.remsi v67 c8_i32_43
  let c0_i32_48 : BitVec 32 := 0#32
  let v81 : BitVec 1 := Scalar.cmpi .ne v80 c0_i32_48
  let v82 : BitVec 1 := Scalar.andi v79 v81
  let v68 : BitVec 32 := Scalar.divsi v67 c8_i32_43
  let c1_i32_49 : BitVec 32 := 1#32
  let v83 : BitVec 32 := Scalar.subi v68 c1_i32_49
  let v84 : BitVec 32 := Scalar.select v82 v83 v68
  let v89 : Index := Scalar.indexCast v84
  let c8_i32_41 : BitVec 32 := 8#32
  let v64 : BitVec 32 := Scalar.muli v63 c8_i32_41
  let v65 : BitVec 32 := Scalar.subi v25 v64
  let v90 : Index := Scalar.indexCast v65
  let c8_i32_50 : BitVec 32 := 8#32
  let v85 : BitVec 32 := Scalar.muli v84 c8_i32_50
  let v86 : BitVec 32 := Scalar.subi v67 v85
  let c16_i32_51 : BitVec 32 := 16#32
  let v87 : BitVec 32 := Scalar.muli v86 c16_i32_51
  let v91 : Index := Scalar.indexCast v87
  ![v88.toNat, v89.toNat, v90.toNat, v91.toNat]
def k0_off9 (k0_t3 : Fin k0_t3_loop.trips) (c0_i32_42 : BitVec 32) (c0_i32_99 : BitVec 32) : Fin 1 → Nat :=
  let c0_i32_18 : BitVec 32 := 0#32
  let c1_i32_20 : BitVec 32 := 1#32
  let arg14 : BitVec 32 := Scf.iv c0_i32_18 c1_i32_20 k0_t3
  let c4_i32 : BitVec 32 := 4#32
  let v66 : BitVec 32 := Scalar.muli arg14 c4_i32
  let v67 : BitVec 32 := Scalar.addi v66 c0_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c8_i32_43 : BitVec 32 := 8#32
  let c0_i32_46 : BitVec 32 := 0#32
  let v74 : BitVec 1 := Scalar.cmpi .sgt c8_i32_43 c0_i32_46
  let v75 : BitVec 32 := Scalar.extui v74
  let c0_i32_47 : BitVec 32 := 0#32
  let v76 : BitVec 1 := Scalar.cmpi .slt c8_i32_43 c0_i32_47
  let v77 : BitVec 32 := Scalar.extui v76
  let v78 : BitVec 32 := Scalar.subi v75 v77
  let v79 : BitVec 1 := Scalar.cmpi .ne v73 v78
  let v80 : BitVec 32 := Scalar.remsi v67 c8_i32_43
  let c0_i32_48 : BitVec 32 := 0#32
  let v81 : BitVec 1 := Scalar.cmpi .ne v80 c0_i32_48
  let v82 : BitVec 1 := Scalar.andi v79 v81
  let v68 : BitVec 32 := Scalar.divsi v67 c8_i32_43
  let c1_i32_49 : BitVec 32 := 1#32
  let v83 : BitVec 32 := Scalar.subi v68 c1_i32_49
  let v84 : BitVec 32 := Scalar.select v82 v83 v68
  let c1024_i32 : BitVec 32 := 1024#32
  let v96 : BitVec 32 := Scalar.muli v84 c1024_i32
  let c8_i32_50 : BitVec 32 := 8#32
  let v85 : BitVec 32 := Scalar.muli v84 c8_i32_50
  let v86 : BitVec 32 := Scalar.subi v67 v85
  let c16_i32_53 : BitVec 32 := 16#32
  let v97 : BitVec 32 := Scalar.muli v86 c16_i32_53
  let v98 : BitVec 32 := Scalar.addi v96 v97
  let v206 : BitVec 32 := Scalar.addi v98 c0_i32_99
  let v207 : Index := Scalar.indexCast v206
  ![v207.toNat]
def k0_off9_at (r : Fin 256) : BitVec 32 × BitVec 32 :=
  if r.val < 128 then
    if r.val < 64 then
      if r.val < 32 then
        if r.val < 16 then
          if r.val < 8 then
            if r.val < 4 then
              if r.val < 2 then
                if r.val < 1 then
                  (0#32, 0#32)
                else
                  (1#32, 0#32)
              else
                if r.val < 3 then
                  (2#32, 0#32)
                else
                  (3#32, 0#32)
            else
              if r.val < 6 then
                if r.val < 5 then
                  (0#32, 128#32)
                else
                  (1#32, 128#32)
              else
                if r.val < 7 then
                  (2#32, 128#32)
                else
                  (3#32, 128#32)
          else
            if r.val < 12 then
              if r.val < 10 then
                if r.val < 9 then
                  (0#32, 256#32)
                else
                  (1#32, 256#32)
              else
                if r.val < 11 then
                  (2#32, 256#32)
                else
                  (3#32, 256#32)
            else
              if r.val < 14 then
                if r.val < 13 then
                  (0#32, 384#32)
                else
                  (1#32, 384#32)
              else
                if r.val < 15 then
                  (2#32, 384#32)
                else
                  (3#32, 384#32)
        else
          if r.val < 24 then
            if r.val < 20 then
              if r.val < 18 then
                if r.val < 17 then
                  (0#32, 512#32)
                else
                  (1#32, 512#32)
              else
                if r.val < 19 then
                  (2#32, 512#32)
                else
                  (3#32, 512#32)
            else
              if r.val < 22 then
                if r.val < 21 then
                  (0#32, 640#32)
                else
                  (1#32, 640#32)
              else
                if r.val < 23 then
                  (2#32, 640#32)
                else
                  (3#32, 640#32)
          else
            if r.val < 28 then
              if r.val < 26 then
                if r.val < 25 then
                  (0#32, 768#32)
                else
                  (1#32, 768#32)
              else
                if r.val < 27 then
                  (2#32, 768#32)
                else
                  (3#32, 768#32)
            else
              if r.val < 30 then
                if r.val < 29 then
                  (0#32, 896#32)
                else
                  (1#32, 896#32)
              else
                if r.val < 31 then
                  (2#32, 896#32)
                else
                  (3#32, 896#32)
      else
        if r.val < 48 then
          if r.val < 40 then
            if r.val < 36 then
              if r.val < 34 then
                if r.val < 33 then
                  (0#32, 4096#32)
                else
                  (1#32, 4096#32)
              else
                if r.val < 35 then
                  (2#32, 4096#32)
                else
                  (3#32, 4096#32)
            else
              if r.val < 38 then
                if r.val < 37 then
                  (0#32, 4224#32)
                else
                  (1#32, 4224#32)
              else
                if r.val < 39 then
                  (2#32, 4224#32)
                else
                  (3#32, 4224#32)
          else
            if r.val < 44 then
              if r.val < 42 then
                if r.val < 41 then
                  (0#32, 4352#32)
                else
                  (1#32, 4352#32)
              else
                if r.val < 43 then
                  (2#32, 4352#32)
                else
                  (3#32, 4352#32)
            else
              if r.val < 46 then
                if r.val < 45 then
                  (0#32, 4480#32)
                else
                  (1#32, 4480#32)
              else
                if r.val < 47 then
                  (2#32, 4480#32)
                else
                  (3#32, 4480#32)
        else
          if r.val < 56 then
            if r.val < 52 then
              if r.val < 50 then
                if r.val < 49 then
                  (0#32, 4608#32)
                else
                  (1#32, 4608#32)
              else
                if r.val < 51 then
                  (2#32, 4608#32)
                else
                  (3#32, 4608#32)
            else
              if r.val < 54 then
                if r.val < 53 then
                  (0#32, 4736#32)
                else
                  (1#32, 4736#32)
              else
                if r.val < 55 then
                  (2#32, 4736#32)
                else
                  (3#32, 4736#32)
          else
            if r.val < 60 then
              if r.val < 58 then
                if r.val < 57 then
                  (0#32, 4864#32)
                else
                  (1#32, 4864#32)
              else
                if r.val < 59 then
                  (2#32, 4864#32)
                else
                  (3#32, 4864#32)
            else
              if r.val < 62 then
                if r.val < 61 then
                  (0#32, 4992#32)
                else
                  (1#32, 4992#32)
              else
                if r.val < 63 then
                  (2#32, 4992#32)
                else
                  (3#32, 4992#32)
    else
      if r.val < 96 then
        if r.val < 80 then
          if r.val < 72 then
            if r.val < 68 then
              if r.val < 66 then
                if r.val < 65 then
                  (0#32, 8192#32)
                else
                  (1#32, 8192#32)
              else
                if r.val < 67 then
                  (2#32, 8192#32)
                else
                  (3#32, 8192#32)
            else
              if r.val < 70 then
                if r.val < 69 then
                  (0#32, 8320#32)
                else
                  (1#32, 8320#32)
              else
                if r.val < 71 then
                  (2#32, 8320#32)
                else
                  (3#32, 8320#32)
          else
            if r.val < 76 then
              if r.val < 74 then
                if r.val < 73 then
                  (0#32, 8448#32)
                else
                  (1#32, 8448#32)
              else
                if r.val < 75 then
                  (2#32, 8448#32)
                else
                  (3#32, 8448#32)
            else
              if r.val < 78 then
                if r.val < 77 then
                  (0#32, 8576#32)
                else
                  (1#32, 8576#32)
              else
                if r.val < 79 then
                  (2#32, 8576#32)
                else
                  (3#32, 8576#32)
        else
          if r.val < 88 then
            if r.val < 84 then
              if r.val < 82 then
                if r.val < 81 then
                  (0#32, 8704#32)
                else
                  (1#32, 8704#32)
              else
                if r.val < 83 then
                  (2#32, 8704#32)
                else
                  (3#32, 8704#32)
            else
              if r.val < 86 then
                if r.val < 85 then
                  (0#32, 8832#32)
                else
                  (1#32, 8832#32)
              else
                if r.val < 87 then
                  (2#32, 8832#32)
                else
                  (3#32, 8832#32)
          else
            if r.val < 92 then
              if r.val < 90 then
                if r.val < 89 then
                  (0#32, 8960#32)
                else
                  (1#32, 8960#32)
              else
                if r.val < 91 then
                  (2#32, 8960#32)
                else
                  (3#32, 8960#32)
            else
              if r.val < 94 then
                if r.val < 93 then
                  (0#32, 9088#32)
                else
                  (1#32, 9088#32)
              else
                if r.val < 95 then
                  (2#32, 9088#32)
                else
                  (3#32, 9088#32)
      else
        if r.val < 112 then
          if r.val < 104 then
            if r.val < 100 then
              if r.val < 98 then
                if r.val < 97 then
                  (0#32, 12288#32)
                else
                  (1#32, 12288#32)
              else
                if r.val < 99 then
                  (2#32, 12288#32)
                else
                  (3#32, 12288#32)
            else
              if r.val < 102 then
                if r.val < 101 then
                  (0#32, 12416#32)
                else
                  (1#32, 12416#32)
              else
                if r.val < 103 then
                  (2#32, 12416#32)
                else
                  (3#32, 12416#32)
          else
            if r.val < 108 then
              if r.val < 106 then
                if r.val < 105 then
                  (0#32, 12544#32)
                else
                  (1#32, 12544#32)
              else
                if r.val < 107 then
                  (2#32, 12544#32)
                else
                  (3#32, 12544#32)
            else
              if r.val < 110 then
                if r.val < 109 then
                  (0#32, 12672#32)
                else
                  (1#32, 12672#32)
              else
                if r.val < 111 then
                  (2#32, 12672#32)
                else
                  (3#32, 12672#32)
        else
          if r.val < 120 then
            if r.val < 116 then
              if r.val < 114 then
                if r.val < 113 then
                  (0#32, 12800#32)
                else
                  (1#32, 12800#32)
              else
                if r.val < 115 then
                  (2#32, 12800#32)
                else
                  (3#32, 12800#32)
            else
              if r.val < 118 then
                if r.val < 117 then
                  (0#32, 12928#32)
                else
                  (1#32, 12928#32)
              else
                if r.val < 119 then
                  (2#32, 12928#32)
                else
                  (3#32, 12928#32)
          else
            if r.val < 124 then
              if r.val < 122 then
                if r.val < 121 then
                  (0#32, 13056#32)
                else
                  (1#32, 13056#32)
              else
                if r.val < 123 then
                  (2#32, 13056#32)
                else
                  (3#32, 13056#32)
            else
              if r.val < 126 then
                if r.val < 125 then
                  (0#32, 13184#32)
                else
                  (1#32, 13184#32)
              else
                if r.val < 127 then
                  (2#32, 13184#32)
                else
                  (3#32, 13184#32)
  else
    if r.val < 192 then
      if r.val < 160 then
        if r.val < 144 then
          if r.val < 136 then
            if r.val < 132 then
              if r.val < 130 then
                if r.val < 129 then
                  (0#32, 16384#32)
                else
                  (1#32, 16384#32)
              else
                if r.val < 131 then
                  (2#32, 16384#32)
                else
                  (3#32, 16384#32)
            else
              if r.val < 134 then
                if r.val < 133 then
                  (0#32, 16512#32)
                else
                  (1#32, 16512#32)
              else
                if r.val < 135 then
                  (2#32, 16512#32)
                else
                  (3#32, 16512#32)
          else
            if r.val < 140 then
              if r.val < 138 then
                if r.val < 137 then
                  (0#32, 16640#32)
                else
                  (1#32, 16640#32)
              else
                if r.val < 139 then
                  (2#32, 16640#32)
                else
                  (3#32, 16640#32)
            else
              if r.val < 142 then
                if r.val < 141 then
                  (0#32, 16768#32)
                else
                  (1#32, 16768#32)
              else
                if r.val < 143 then
                  (2#32, 16768#32)
                else
                  (3#32, 16768#32)
        else
          if r.val < 152 then
            if r.val < 148 then
              if r.val < 146 then
                if r.val < 145 then
                  (0#32, 16896#32)
                else
                  (1#32, 16896#32)
              else
                if r.val < 147 then
                  (2#32, 16896#32)
                else
                  (3#32, 16896#32)
            else
              if r.val < 150 then
                if r.val < 149 then
                  (0#32, 17024#32)
                else
                  (1#32, 17024#32)
              else
                if r.val < 151 then
                  (2#32, 17024#32)
                else
                  (3#32, 17024#32)
          else
            if r.val < 156 then
              if r.val < 154 then
                if r.val < 153 then
                  (0#32, 17152#32)
                else
                  (1#32, 17152#32)
              else
                if r.val < 155 then
                  (2#32, 17152#32)
                else
                  (3#32, 17152#32)
            else
              if r.val < 158 then
                if r.val < 157 then
                  (0#32, 17280#32)
                else
                  (1#32, 17280#32)
              else
                if r.val < 159 then
                  (2#32, 17280#32)
                else
                  (3#32, 17280#32)
      else
        if r.val < 176 then
          if r.val < 168 then
            if r.val < 164 then
              if r.val < 162 then
                if r.val < 161 then
                  (0#32, 20480#32)
                else
                  (1#32, 20480#32)
              else
                if r.val < 163 then
                  (2#32, 20480#32)
                else
                  (3#32, 20480#32)
            else
              if r.val < 166 then
                if r.val < 165 then
                  (0#32, 20608#32)
                else
                  (1#32, 20608#32)
              else
                if r.val < 167 then
                  (2#32, 20608#32)
                else
                  (3#32, 20608#32)
          else
            if r.val < 172 then
              if r.val < 170 then
                if r.val < 169 then
                  (0#32, 20736#32)
                else
                  (1#32, 20736#32)
              else
                if r.val < 171 then
                  (2#32, 20736#32)
                else
                  (3#32, 20736#32)
            else
              if r.val < 174 then
                if r.val < 173 then
                  (0#32, 20864#32)
                else
                  (1#32, 20864#32)
              else
                if r.val < 175 then
                  (2#32, 20864#32)
                else
                  (3#32, 20864#32)
        else
          if r.val < 184 then
            if r.val < 180 then
              if r.val < 178 then
                if r.val < 177 then
                  (0#32, 20992#32)
                else
                  (1#32, 20992#32)
              else
                if r.val < 179 then
                  (2#32, 20992#32)
                else
                  (3#32, 20992#32)
            else
              if r.val < 182 then
                if r.val < 181 then
                  (0#32, 21120#32)
                else
                  (1#32, 21120#32)
              else
                if r.val < 183 then
                  (2#32, 21120#32)
                else
                  (3#32, 21120#32)
          else
            if r.val < 188 then
              if r.val < 186 then
                if r.val < 185 then
                  (0#32, 21248#32)
                else
                  (1#32, 21248#32)
              else
                if r.val < 187 then
                  (2#32, 21248#32)
                else
                  (3#32, 21248#32)
            else
              if r.val < 190 then
                if r.val < 189 then
                  (0#32, 21376#32)
                else
                  (1#32, 21376#32)
              else
                if r.val < 191 then
                  (2#32, 21376#32)
                else
                  (3#32, 21376#32)
    else
      if r.val < 224 then
        if r.val < 208 then
          if r.val < 200 then
            if r.val < 196 then
              if r.val < 194 then
                if r.val < 193 then
                  (0#32, 24576#32)
                else
                  (1#32, 24576#32)
              else
                if r.val < 195 then
                  (2#32, 24576#32)
                else
                  (3#32, 24576#32)
            else
              if r.val < 198 then
                if r.val < 197 then
                  (0#32, 24704#32)
                else
                  (1#32, 24704#32)
              else
                if r.val < 199 then
                  (2#32, 24704#32)
                else
                  (3#32, 24704#32)
          else
            if r.val < 204 then
              if r.val < 202 then
                if r.val < 201 then
                  (0#32, 24832#32)
                else
                  (1#32, 24832#32)
              else
                if r.val < 203 then
                  (2#32, 24832#32)
                else
                  (3#32, 24832#32)
            else
              if r.val < 206 then
                if r.val < 205 then
                  (0#32, 24960#32)
                else
                  (1#32, 24960#32)
              else
                if r.val < 207 then
                  (2#32, 24960#32)
                else
                  (3#32, 24960#32)
        else
          if r.val < 216 then
            if r.val < 212 then
              if r.val < 210 then
                if r.val < 209 then
                  (0#32, 25088#32)
                else
                  (1#32, 25088#32)
              else
                if r.val < 211 then
                  (2#32, 25088#32)
                else
                  (3#32, 25088#32)
            else
              if r.val < 214 then
                if r.val < 213 then
                  (0#32, 25216#32)
                else
                  (1#32, 25216#32)
              else
                if r.val < 215 then
                  (2#32, 25216#32)
                else
                  (3#32, 25216#32)
          else
            if r.val < 220 then
              if r.val < 218 then
                if r.val < 217 then
                  (0#32, 25344#32)
                else
                  (1#32, 25344#32)
              else
                if r.val < 219 then
                  (2#32, 25344#32)
                else
                  (3#32, 25344#32)
            else
              if r.val < 222 then
                if r.val < 221 then
                  (0#32, 25472#32)
                else
                  (1#32, 25472#32)
              else
                if r.val < 223 then
                  (2#32, 25472#32)
                else
                  (3#32, 25472#32)
      else
        if r.val < 240 then
          if r.val < 232 then
            if r.val < 228 then
              if r.val < 226 then
                if r.val < 225 then
                  (0#32, 28672#32)
                else
                  (1#32, 28672#32)
              else
                if r.val < 227 then
                  (2#32, 28672#32)
                else
                  (3#32, 28672#32)
            else
              if r.val < 230 then
                if r.val < 229 then
                  (0#32, 28800#32)
                else
                  (1#32, 28800#32)
              else
                if r.val < 231 then
                  (2#32, 28800#32)
                else
                  (3#32, 28800#32)
          else
            if r.val < 236 then
              if r.val < 234 then
                if r.val < 233 then
                  (0#32, 28928#32)
                else
                  (1#32, 28928#32)
              else
                if r.val < 235 then
                  (2#32, 28928#32)
                else
                  (3#32, 28928#32)
            else
              if r.val < 238 then
                if r.val < 237 then
                  (0#32, 29056#32)
                else
                  (1#32, 29056#32)
              else
                if r.val < 239 then
                  (2#32, 29056#32)
                else
                  (3#32, 29056#32)
        else
          if r.val < 248 then
            if r.val < 244 then
              if r.val < 242 then
                if r.val < 241 then
                  (0#32, 29184#32)
                else
                  (1#32, 29184#32)
              else
                if r.val < 243 then
                  (2#32, 29184#32)
                else
                  (3#32, 29184#32)
            else
              if r.val < 246 then
                if r.val < 245 then
                  (0#32, 29312#32)
                else
                  (1#32, 29312#32)
              else
                if r.val < 247 then
                  (2#32, 29312#32)
                else
                  (3#32, 29312#32)
          else
            if r.val < 252 then
              if r.val < 250 then
                if r.val < 249 then
                  (0#32, 29440#32)
                else
                  (1#32, 29440#32)
              else
                if r.val < 251 then
                  (2#32, 29440#32)
                else
                  (3#32, 29440#32)
            else
              if r.val < 254 then
                if r.val < 253 then
                  (0#32, 29568#32)
                else
                  (1#32, 29568#32)
              else
                if r.val < 255 then
                  (2#32, 29568#32)
                else
                  (3#32, 29568#32)

def k0_chk3_0 (v95 : IVec S16 32) : Prop :=
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a)
def k0_chk3_1 (v95 : IVec S16 32) : Prop :=
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a)
def k0_chk3 (v95 : IVec S16 32) : Prop :=
  k0_chk3_0 v95 ∧
  k0_chk3_1 v95
theorem k0_idx3_inb : ∀ (v95 : IVec S16 32) (k0_hw3 : k0_chk3 v95), ∀ a x, ((![v95] : Fin 1 → IVec S16 32) a x).toNat < S512.size a := fun v95 k0_hw3 => k0_hw3.1.1
theorem k0_idx7_inb : ∀ (v95 : IVec S16 32) (k0_hw3 : k0_chk3 v95), ∀ a x, ((![v95] : Fin 1 → IVec S16 32) a x).toNat < S512.size a := fun v95 k0_hw3 => k0_hw3.1.2.1
theorem k0_idx11_inb : ∀ (v95 : IVec S16 32) (k0_hw3 : k0_chk3 v95), ∀ a x, ((![v95] : Fin 1 → IVec S16 32) a x).toNat < S512.size a := fun v95 k0_hw3 => k0_hw3.1.2.2.1
theorem k0_idx15_inb : ∀ (v95 : IVec S16 32) (k0_hw3 : k0_chk3 v95), ∀ a x, ((![v95] : Fin 1 → IVec S16 32) a x).toNat < S512.size a := fun v95 k0_hw3 => k0_hw3.1.2.2.2.1
theorem k0_idx19_inb : ∀ (v95 : IVec S16 32) (k0_hw3 : k0_chk3 v95), ∀ a x, ((![v95] : Fin 1 → IVec S16 32) a x).toNat < S512.size a := fun v95 k0_hw3 => k0_hw3.1.2.2.2.2.1
theorem k0_idx23_inb : ∀ (v95 : IVec S16 32) (k0_hw3 : k0_chk3 v95), ∀ a x, ((![v95] : Fin 1 → IVec S16 32) a x).toNat < S512.size a := fun v95 k0_hw3 => k0_hw3.1.2.2.2.2.2.1
theorem k0_idx27_inb : ∀ (v95 : IVec S16 32) (k0_hw3 : k0_chk3 v95), ∀ a x, ((![v95] : Fin 1 → IVec S16 32) a x).toNat < S512.size a := fun v95 k0_hw3 => k0_hw3.1.2.2.2.2.2.2.1
theorem k0_idx31_inb : ∀ (v95 : IVec S16 32) (k0_hw3 : k0_chk3 v95), ∀ a x, ((![v95] : Fin 1 → IVec S16 32) a x).toNat < S512.size a := fun v95 k0_hw3 => k0_hw3.1.2.2.2.2.2.2.2.1
theorem k0_idx35_inb : ∀ (v95 : IVec S16 32) (k0_hw3 : k0_chk3 v95), ∀ a x, ((![v95] : Fin 1 → IVec S16 32) a x).toNat < S512.size a := fun v95 k0_hw3 => k0_hw3.1.2.2.2.2.2.2.2.2.1
theorem k0_idx39_inb : ∀ (v95 : IVec S16 32) (k0_hw3 : k0_chk3 v95), ∀ a x, ((![v95] : Fin 1 → IVec S16 32) a x).toNat < S512.size a := fun v95 k0_hw3 => k0_hw3.1.2.2.2.2.2.2.2.2.2.1
theorem k0_idx43_inb : ∀ (v95 : IVec S16 32) (k0_hw3 : k0_chk3 v95), ∀ a x, ((![v95] : Fin 1 → IVec S16 32) a x).toNat < S512.size a := fun v95 k0_hw3 => k0_hw3.1.2.2.2.2.2.2.2.2.2.2.1
theorem k0_idx47_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.1
theorem k0_idx51_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.1
theorem k0_idx55_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.1
theorem k0_idx59_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.1
theorem k0_idx63_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.1
theorem k0_idx67_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.1
theorem k0_idx71_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.1
theorem k0_idx75_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.1
theorem k0_idx79_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.1
theorem k0_idx83_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.1
theorem k0_idx87_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.1
theorem k0_idx91_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.1
theorem k0_idx95_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.1
theorem k0_idx99_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.1
theorem k0_idx103_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.1
theorem k0_idx107_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.1
theorem k0_idx111_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.2.1
theorem k0_idx115_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.2.2.1
theorem k0_idx119_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.2.2.2.1
theorem k0_idx123_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.2.2.2.2.1
theorem k0_idx127_inb : ∀ (v95 : IVec S16 32) (k0_hw3 : k0_chk3 v95), ∀ a x, ((![v95] : Fin 1 → IVec S16 32) a x).toNat < S512.size a := fun v95 k0_hw3 => k0_hw3.1.2.2.2.2.2.2.2.2.2.2.2.2.2.2.2.2.2.2.2.2.2.2.2.2.2.2.2.2.2.2.2
theorem k0_idx131_inb : ∀ (v95 : IVec S16 32) (k0_hw3 : k0_chk3 v95), ∀ a x, ((![v95] : Fin 1 → IVec S16 32) a x).toNat < S512.size a := fun v95 k0_hw3 => k0_hw3.2.1
theorem k0_idx135_inb : ∀ (v95 : IVec S16 32) (k0_hw3 : k0_chk3 v95), ∀ a x, ((![v95] : Fin 1 → IVec S16 32) a x).toNat < S512.size a := fun v95 k0_hw3 => k0_hw3.2.2.1
theorem k0_idx139_inb : ∀ (v95 : IVec S16 32) (k0_hw3 : k0_chk3 v95), ∀ a x, ((![v95] : Fin 1 → IVec S16 32) a x).toNat < S512.size a := fun v95 k0_hw3 => k0_hw3.2.2.2.1
theorem k0_idx143_inb : ∀ (v95 : IVec S16 32) (k0_hw3 : k0_chk3 v95), ∀ a x, ((![v95] : Fin 1 → IVec S16 32) a x).toNat < S512.size a := fun v95 k0_hw3 => k0_hw3.2.2.2.2.1
theorem k0_idx147_inb : ∀ (v95 : IVec S16 32) (k0_hw3 : k0_chk3 v95), ∀ a x, ((![v95] : Fin 1 → IVec S16 32) a x).toNat < S512.size a := fun v95 k0_hw3 => k0_hw3.2.2.2.2.2.1
theorem k0_idx151_inb : ∀ (v95 : IVec S16 32) (k0_hw3 : k0_chk3 v95), ∀ a x, ((![v95] : Fin 1 → IVec S16 32) a x).toNat < S512.size a := fun v95 k0_hw3 => k0_hw3.2.2.2.2.2.2.1
theorem k0_idx155_inb : ∀ (v95 : IVec S16 32) (k0_hw3 : k0_chk3 v95), ∀ a x, ((![v95] : Fin 1 → IVec S16 32) a x).toNat < S512.size a := fun v95 k0_hw3 => k0_hw3.2.2.2.2.2.2.2.1
theorem k0_idx159_inb : ∀ (v95 : IVec S16 32) (k0_hw3 : k0_chk3 v95), ∀ a x, ((![v95] : Fin 1 → IVec S16 32) a x).toNat < S512.size a := fun v95 k0_hw3 => k0_hw3.2.2.2.2.2.2.2.2.1
theorem k0_idx163_inb : ∀ (v95 : IVec S16 32) (k0_hw3 : k0_chk3 v95), ∀ a x, ((![v95] : Fin 1 → IVec S16 32) a x).toNat < S512.size a := fun v95 k0_hw3 => k0_hw3.2.2.2.2.2.2.2.2.2.1
theorem k0_idx167_inb : ∀ (v95 : IVec S16 32) (k0_hw3 : k0_chk3 v95), ∀ a x, ((![v95] : Fin 1 → IVec S16 32) a x).toNat < S512.size a := fun v95 k0_hw3 => k0_hw3.2.2.2.2.2.2.2.2.2.2.1
theorem k0_idx171_inb : ∀ (v95 : IVec S16 32) (k0_hw3 : k0_chk3 v95), ∀ a x, ((![v95] : Fin 1 → IVec S16 32) a x).toNat < S512.size a := fun v95 k0_hw3 => k0_hw3.2.2.2.2.2.2.2.2.2.2.2.1
theorem k0_idx175_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.1
theorem k0_idx179_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.1
theorem k0_idx183_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.1
theorem k0_idx187_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.1
theorem k0_idx191_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.1
theorem k0_idx195_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.1
theorem k0_idx199_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.1
theorem k0_idx203_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.1
theorem k0_idx207_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.1
theorem k0_idx211_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.1
theorem k0_idx215_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.1
theorem k0_idx219_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.1
theorem k0_idx223_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.1
theorem k0_idx227_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.1
theorem k0_idx231_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.1
theorem k0_idx235_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.1
theorem k0_idx239_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.2.1
theorem k0_idx243_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.2.2.1
theorem k0_idx247_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.2.2.2.1
theorem k0_idx251_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.2.2.2.2.1
theorem k0_idx255_inb : ∀ (v95 : IVec S16 32) (k0_hw3 : k0_chk3 v95), ∀ a x, ((![v95] : Fin 1 → IVec S16 32) a x).toNat < S512.size a := fun v95 k0_hw3 => k0_hw3.2.2.2.2.2.2.2.2.2.2.2.2.2.2.2.2.2.2.2.2.2.2.2.2.2.2.2.2.2.2.2.2

def k0_chk4_0 (v128 : IVec S16 32) : Prop :=
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a)
def k0_chk4_1 (v128 : IVec S16 32) : Prop :=
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a)
def k0_chk4 (v128 : IVec S16 32) : Prop :=
  k0_chk4_0 v128 ∧
  k0_chk4_1 v128
theorem k0_idx4_inb : ∀ (v128 : IVec S16 32) (k0_hw4 : k0_chk4 v128), ∀ a x, ((![v128] : Fin 1 → IVec S16 32) a x).toNat < S512.size a := fun v128 k0_hw4 => k0_hw4.1.1
theorem k0_idx8_inb : ∀ (v128 : IVec S16 32) (k0_hw4 : k0_chk4 v128), ∀ a x, ((![v128] : Fin 1 → IVec S16 32) a x).toNat < S512.size a := fun v128 k0_hw4 => k0_hw4.1.2.1
theorem k0_idx12_inb : ∀ (v128 : IVec S16 32) (k0_hw4 : k0_chk4 v128), ∀ a x, ((![v128] : Fin 1 → IVec S16 32) a x).toNat < S512.size a := fun v128 k0_hw4 => k0_hw4.1.2.2.1
theorem k0_idx16_inb : ∀ (v128 : IVec S16 32) (k0_hw4 : k0_chk4 v128), ∀ a x, ((![v128] : Fin 1 → IVec S16 32) a x).toNat < S512.size a := fun v128 k0_hw4 => k0_hw4.1.2.2.2.1
theorem k0_idx20_inb : ∀ (v128 : IVec S16 32) (k0_hw4 : k0_chk4 v128), ∀ a x, ((![v128] : Fin 1 → IVec S16 32) a x).toNat < S512.size a := fun v128 k0_hw4 => k0_hw4.1.2.2.2.2.1
theorem k0_idx24_inb : ∀ (v128 : IVec S16 32) (k0_hw4 : k0_chk4 v128), ∀ a x, ((![v128] : Fin 1 → IVec S16 32) a x).toNat < S512.size a := fun v128 k0_hw4 => k0_hw4.1.2.2.2.2.2.1
theorem k0_idx28_inb : ∀ (v128 : IVec S16 32) (k0_hw4 : k0_chk4 v128), ∀ a x, ((![v128] : Fin 1 → IVec S16 32) a x).toNat < S512.size a := fun v128 k0_hw4 => k0_hw4.1.2.2.2.2.2.2.1
theorem k0_idx32_inb : ∀ (v128 : IVec S16 32) (k0_hw4 : k0_chk4 v128), ∀ a x, ((![v128] : Fin 1 → IVec S16 32) a x).toNat < S512.size a := fun v128 k0_hw4 => k0_hw4.1.2.2.2.2.2.2.2.1
theorem k0_idx36_inb : ∀ (v128 : IVec S16 32) (k0_hw4 : k0_chk4 v128), ∀ a x, ((![v128] : Fin 1 → IVec S16 32) a x).toNat < S512.size a := fun v128 k0_hw4 => k0_hw4.1.2.2.2.2.2.2.2.2.1
theorem k0_idx40_inb : ∀ (v128 : IVec S16 32) (k0_hw4 : k0_chk4 v128), ∀ a x, ((![v128] : Fin 1 → IVec S16 32) a x).toNat < S512.size a := fun v128 k0_hw4 => k0_hw4.1.2.2.2.2.2.2.2.2.2.1
theorem k0_idx44_inb : ∀ (v128 : IVec S16 32) (k0_hw4 : k0_chk4 v128), ∀ a x, ((![v128] : Fin 1 → IVec S16 32) a x).toNat < S512.size a := fun v128 k0_hw4 => k0_hw4.1.2.2.2.2.2.2.2.2.2.2.1
theorem k0_idx48_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.1
theorem k0_idx52_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.1
theorem k0_idx56_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.1
theorem k0_idx60_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.1
theorem k0_idx64_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.1
theorem k0_idx68_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.1
theorem k0_idx72_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.1
theorem k0_idx76_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.1
theorem k0_idx80_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.1
theorem k0_idx84_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.1
theorem k0_idx88_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.1
theorem k0_idx92_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.1
theorem k0_idx96_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.1
theorem k0_idx100_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.1
theorem k0_idx104_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.1
theorem k0_idx108_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.1
theorem k0_idx112_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.2.1
theorem k0_idx116_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.2.2.1
theorem k0_idx120_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.2.2.2.1
theorem k0_idx124_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.2.2.2.2.1
theorem k0_idx128_inb : ∀ (v128 : IVec S16 32) (k0_hw4 : k0_chk4 v128), ∀ a x, ((![v128] : Fin 1 → IVec S16 32) a x).toNat < S512.size a := fun v128 k0_hw4 => k0_hw4.1.2.2.2.2.2.2.2.2.2.2.2.2.2.2.2.2.2.2.2.2.2.2.2.2.2.2.2.2.2.2.2
theorem k0_idx132_inb : ∀ (v128 : IVec S16 32) (k0_hw4 : k0_chk4 v128), ∀ a x, ((![v128] : Fin 1 → IVec S16 32) a x).toNat < S512.size a := fun v128 k0_hw4 => k0_hw4.2.1
theorem k0_idx136_inb : ∀ (v128 : IVec S16 32) (k0_hw4 : k0_chk4 v128), ∀ a x, ((![v128] : Fin 1 → IVec S16 32) a x).toNat < S512.size a := fun v128 k0_hw4 => k0_hw4.2.2.1
theorem k0_idx140_inb : ∀ (v128 : IVec S16 32) (k0_hw4 : k0_chk4 v128), ∀ a x, ((![v128] : Fin 1 → IVec S16 32) a x).toNat < S512.size a := fun v128 k0_hw4 => k0_hw4.2.2.2.1
theorem k0_idx144_inb : ∀ (v128 : IVec S16 32) (k0_hw4 : k0_chk4 v128), ∀ a x, ((![v128] : Fin 1 → IVec S16 32) a x).toNat < S512.size a := fun v128 k0_hw4 => k0_hw4.2.2.2.2.1
theorem k0_idx148_inb : ∀ (v128 : IVec S16 32) (k0_hw4 : k0_chk4 v128), ∀ a x, ((![v128] : Fin 1 → IVec S16 32) a x).toNat < S512.size a := fun v128 k0_hw4 => k0_hw4.2.2.2.2.2.1
theorem k0_idx152_inb : ∀ (v128 : IVec S16 32) (k0_hw4 : k0_chk4 v128), ∀ a x, ((![v128] : Fin 1 → IVec S16 32) a x).toNat < S512.size a := fun v128 k0_hw4 => k0_hw4.2.2.2.2.2.2.1
theorem k0_idx156_inb : ∀ (v128 : IVec S16 32) (k0_hw4 : k0_chk4 v128), ∀ a x, ((![v128] : Fin 1 → IVec S16 32) a x).toNat < S512.size a := fun v128 k0_hw4 => k0_hw4.2.2.2.2.2.2.2.1
theorem k0_idx160_inb : ∀ (v128 : IVec S16 32) (k0_hw4 : k0_chk4 v128), ∀ a x, ((![v128] : Fin 1 → IVec S16 32) a x).toNat < S512.size a := fun v128 k0_hw4 => k0_hw4.2.2.2.2.2.2.2.2.1
theorem k0_idx164_inb : ∀ (v128 : IVec S16 32) (k0_hw4 : k0_chk4 v128), ∀ a x, ((![v128] : Fin 1 → IVec S16 32) a x).toNat < S512.size a := fun v128 k0_hw4 => k0_hw4.2.2.2.2.2.2.2.2.2.1
theorem k0_idx168_inb : ∀ (v128 : IVec S16 32) (k0_hw4 : k0_chk4 v128), ∀ a x, ((![v128] : Fin 1 → IVec S16 32) a x).toNat < S512.size a := fun v128 k0_hw4 => k0_hw4.2.2.2.2.2.2.2.2.2.2.1
theorem k0_idx172_inb : ∀ (v128 : IVec S16 32) (k0_hw4 : k0_chk4 v128), ∀ a x, ((![v128] : Fin 1 → IVec S16 32) a x).toNat < S512.size a := fun v128 k0_hw4 => k0_hw4.2.2.2.2.2.2.2.2.2.2.2.1
theorem k0_idx176_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.1
theorem k0_idx180_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.1
theorem k0_idx184_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.1
theorem k0_idx188_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.1
theorem k0_idx192_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.1
theorem k0_idx196_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.1
theorem k0_idx200_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.1
theorem k0_idx204_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.1
theorem k0_idx208_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.1
theorem k0_idx212_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.1
theorem k0_idx216_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.1
theorem k0_idx220_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.1
theorem k0_idx224_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.1
theorem k0_idx228_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.1
theorem k0_idx232_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.1
theorem k0_idx236_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.1
theorem k0_idx240_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.2.1
theorem k0_idx244_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.2.2.1
theorem k0_idx248_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.2.2.2.1
theorem k0_idx252_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.2.2.2.2.1
theorem k0_idx256_inb : ∀ (v128 : IVec S16 32) (k0_hw4 : k0_chk4 v128), ∀ a x, ((![v128] : Fin 1 → IVec S16 32) a x).toNat < S512.size a := fun v128 k0_hw4 => k0_hw4.2.2.2.2.2.2.2.2.2.2.2.2.2.2.2.2.2.2.2.2.2.2.2.2.2.2.2.2.2.2.2.2

def k0_chk5_0 (v161 : IVec S16 32) : Prop :=
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a)
def k0_chk5_1 (v161 : IVec S16 32) : Prop :=
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a)
def k0_chk5 (v161 : IVec S16 32) : Prop :=
  k0_chk5_0 v161 ∧
  k0_chk5_1 v161
theorem k0_idx5_inb : ∀ (v161 : IVec S16 32) (k0_hw5 : k0_chk5 v161), ∀ a x, ((![v161] : Fin 1 → IVec S16 32) a x).toNat < S512.size a := fun v161 k0_hw5 => k0_hw5.1.1
theorem k0_idx9_inb : ∀ (v161 : IVec S16 32) (k0_hw5 : k0_chk5 v161), ∀ a x, ((![v161] : Fin 1 → IVec S16 32) a x).toNat < S512.size a := fun v161 k0_hw5 => k0_hw5.1.2.1
theorem k0_idx13_inb : ∀ (v161 : IVec S16 32) (k0_hw5 : k0_chk5 v161), ∀ a x, ((![v161] : Fin 1 → IVec S16 32) a x).toNat < S512.size a := fun v161 k0_hw5 => k0_hw5.1.2.2.1
theorem k0_idx17_inb : ∀ (v161 : IVec S16 32) (k0_hw5 : k0_chk5 v161), ∀ a x, ((![v161] : Fin 1 → IVec S16 32) a x).toNat < S512.size a := fun v161 k0_hw5 => k0_hw5.1.2.2.2.1
theorem k0_idx21_inb : ∀ (v161 : IVec S16 32) (k0_hw5 : k0_chk5 v161), ∀ a x, ((![v161] : Fin 1 → IVec S16 32) a x).toNat < S512.size a := fun v161 k0_hw5 => k0_hw5.1.2.2.2.2.1
theorem k0_idx25_inb : ∀ (v161 : IVec S16 32) (k0_hw5 : k0_chk5 v161), ∀ a x, ((![v161] : Fin 1 → IVec S16 32) a x).toNat < S512.size a := fun v161 k0_hw5 => k0_hw5.1.2.2.2.2.2.1
theorem k0_idx29_inb : ∀ (v161 : IVec S16 32) (k0_hw5 : k0_chk5 v161), ∀ a x, ((![v161] : Fin 1 → IVec S16 32) a x).toNat < S512.size a := fun v161 k0_hw5 => k0_hw5.1.2.2.2.2.2.2.1
theorem k0_idx33_inb : ∀ (v161 : IVec S16 32) (k0_hw5 : k0_chk5 v161), ∀ a x, ((![v161] : Fin 1 → IVec S16 32) a x).toNat < S512.size a := fun v161 k0_hw5 => k0_hw5.1.2.2.2.2.2.2.2.1
theorem k0_idx37_inb : ∀ (v161 : IVec S16 32) (k0_hw5 : k0_chk5 v161), ∀ a x, ((![v161] : Fin 1 → IVec S16 32) a x).toNat < S512.size a := fun v161 k0_hw5 => k0_hw5.1.2.2.2.2.2.2.2.2.1
theorem k0_idx41_inb : ∀ (v161 : IVec S16 32) (k0_hw5 : k0_chk5 v161), ∀ a x, ((![v161] : Fin 1 → IVec S16 32) a x).toNat < S512.size a := fun v161 k0_hw5 => k0_hw5.1.2.2.2.2.2.2.2.2.2.1
theorem k0_idx45_inb : ∀ (v161 : IVec S16 32) (k0_hw5 : k0_chk5 v161), ∀ a x, ((![v161] : Fin 1 → IVec S16 32) a x).toNat < S512.size a := fun v161 k0_hw5 => k0_hw5.1.2.2.2.2.2.2.2.2.2.2.1
theorem k0_idx49_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.1
theorem k0_idx53_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.1
theorem k0_idx57_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.1
theorem k0_idx61_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.1
theorem k0_idx65_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.1
theorem k0_idx69_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.1
theorem k0_idx73_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.1
theorem k0_idx77_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.1
theorem k0_idx81_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.1
theorem k0_idx85_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.1
theorem k0_idx89_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.1
theorem k0_idx93_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.1
theorem k0_idx97_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.1
theorem k0_idx101_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.1
theorem k0_idx105_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.1
theorem k0_idx109_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.1
theorem k0_idx113_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.2.1
theorem k0_idx117_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.2.2.1
theorem k0_idx121_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.2.2.2.1
theorem k0_idx125_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.2.2.2.2.1
theorem k0_idx129_inb : ∀ (v161 : IVec S16 32) (k0_hw5 : k0_chk5 v161), ∀ a x, ((![v161] : Fin 1 → IVec S16 32) a x).toNat < S512.size a := fun v161 k0_hw5 => k0_hw5.1.2.2.2.2.2.2.2.2.2.2.2.2.2.2.2.2.2.2.2.2.2.2.2.2.2.2.2.2.2.2.2
theorem k0_idx133_inb : ∀ (v161 : IVec S16 32) (k0_hw5 : k0_chk5 v161), ∀ a x, ((![v161] : Fin 1 → IVec S16 32) a x).toNat < S512.size a := fun v161 k0_hw5 => k0_hw5.2.1
theorem k0_idx137_inb : ∀ (v161 : IVec S16 32) (k0_hw5 : k0_chk5 v161), ∀ a x, ((![v161] : Fin 1 → IVec S16 32) a x).toNat < S512.size a := fun v161 k0_hw5 => k0_hw5.2.2.1
theorem k0_idx141_inb : ∀ (v161 : IVec S16 32) (k0_hw5 : k0_chk5 v161), ∀ a x, ((![v161] : Fin 1 → IVec S16 32) a x).toNat < S512.size a := fun v161 k0_hw5 => k0_hw5.2.2.2.1
theorem k0_idx145_inb : ∀ (v161 : IVec S16 32) (k0_hw5 : k0_chk5 v161), ∀ a x, ((![v161] : Fin 1 → IVec S16 32) a x).toNat < S512.size a := fun v161 k0_hw5 => k0_hw5.2.2.2.2.1
theorem k0_idx149_inb : ∀ (v161 : IVec S16 32) (k0_hw5 : k0_chk5 v161), ∀ a x, ((![v161] : Fin 1 → IVec S16 32) a x).toNat < S512.size a := fun v161 k0_hw5 => k0_hw5.2.2.2.2.2.1
theorem k0_idx153_inb : ∀ (v161 : IVec S16 32) (k0_hw5 : k0_chk5 v161), ∀ a x, ((![v161] : Fin 1 → IVec S16 32) a x).toNat < S512.size a := fun v161 k0_hw5 => k0_hw5.2.2.2.2.2.2.1
theorem k0_idx157_inb : ∀ (v161 : IVec S16 32) (k0_hw5 : k0_chk5 v161), ∀ a x, ((![v161] : Fin 1 → IVec S16 32) a x).toNat < S512.size a := fun v161 k0_hw5 => k0_hw5.2.2.2.2.2.2.2.1
theorem k0_idx161_inb : ∀ (v161 : IVec S16 32) (k0_hw5 : k0_chk5 v161), ∀ a x, ((![v161] : Fin 1 → IVec S16 32) a x).toNat < S512.size a := fun v161 k0_hw5 => k0_hw5.2.2.2.2.2.2.2.2.1
theorem k0_idx165_inb : ∀ (v161 : IVec S16 32) (k0_hw5 : k0_chk5 v161), ∀ a x, ((![v161] : Fin 1 → IVec S16 32) a x).toNat < S512.size a := fun v161 k0_hw5 => k0_hw5.2.2.2.2.2.2.2.2.2.1
theorem k0_idx169_inb : ∀ (v161 : IVec S16 32) (k0_hw5 : k0_chk5 v161), ∀ a x, ((![v161] : Fin 1 → IVec S16 32) a x).toNat < S512.size a := fun v161 k0_hw5 => k0_hw5.2.2.2.2.2.2.2.2.2.2.1
theorem k0_idx173_inb : ∀ (v161 : IVec S16 32) (k0_hw5 : k0_chk5 v161), ∀ a x, ((![v161] : Fin 1 → IVec S16 32) a x).toNat < S512.size a := fun v161 k0_hw5 => k0_hw5.2.2.2.2.2.2.2.2.2.2.2.1
theorem k0_idx177_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.1
theorem k0_idx181_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.1
theorem k0_idx185_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.1
theorem k0_idx189_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.1
theorem k0_idx193_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.1
theorem k0_idx197_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.1
theorem k0_idx201_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.1
theorem k0_idx205_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.1
theorem k0_idx209_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.1
theorem k0_idx213_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.1
theorem k0_idx217_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.1
theorem k0_idx221_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.1
theorem k0_idx225_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.1
theorem k0_idx229_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.1
theorem k0_idx233_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.1
theorem k0_idx237_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.1
theorem k0_idx241_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.2.1
theorem k0_idx245_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.2.2.1
theorem k0_idx249_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.2.2.2.1
theorem k0_idx253_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.2.2.2.2.1
theorem k0_idx257_inb : ∀ (v161 : IVec S16 32) (k0_hw5 : k0_chk5 v161), ∀ a x, ((![v161] : Fin 1 → IVec S16 32) a x).toNat < S512.size a := fun v161 k0_hw5 => k0_hw5.2.2.2.2.2.2.2.2.2.2.2.2.2.2.2.2.2.2.2.2.2.2.2.2.2.2.2.2.2.2.2.2

def k0_chk6_0 (v194 : IVec S16 32) : Prop :=
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a)
def k0_chk6_1 (v194 : IVec S16 32) : Prop :=
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a)
def k0_chk6 (v194 : IVec S16 32) : Prop :=
  k0_chk6_0 v194 ∧
  k0_chk6_1 v194
theorem k0_idx6_inb : ∀ (v194 : IVec S16 32) (k0_hw6 : k0_chk6 v194), ∀ a x, ((![v194] : Fin 1 → IVec S16 32) a x).toNat < S512.size a := fun v194 k0_hw6 => k0_hw6.1.1
theorem k0_idx10_inb : ∀ (v194 : IVec S16 32) (k0_hw6 : k0_chk6 v194), ∀ a x, ((![v194] : Fin 1 → IVec S16 32) a x).toNat < S512.size a := fun v194 k0_hw6 => k0_hw6.1.2.1
theorem k0_idx14_inb : ∀ (v194 : IVec S16 32) (k0_hw6 : k0_chk6 v194), ∀ a x, ((![v194] : Fin 1 → IVec S16 32) a x).toNat < S512.size a := fun v194 k0_hw6 => k0_hw6.1.2.2.1
theorem k0_idx18_inb : ∀ (v194 : IVec S16 32) (k0_hw6 : k0_chk6 v194), ∀ a x, ((![v194] : Fin 1 → IVec S16 32) a x).toNat < S512.size a := fun v194 k0_hw6 => k0_hw6.1.2.2.2.1
theorem k0_idx22_inb : ∀ (v194 : IVec S16 32) (k0_hw6 : k0_chk6 v194), ∀ a x, ((![v194] : Fin 1 → IVec S16 32) a x).toNat < S512.size a := fun v194 k0_hw6 => k0_hw6.1.2.2.2.2.1
theorem k0_idx26_inb : ∀ (v194 : IVec S16 32) (k0_hw6 : k0_chk6 v194), ∀ a x, ((![v194] : Fin 1 → IVec S16 32) a x).toNat < S512.size a := fun v194 k0_hw6 => k0_hw6.1.2.2.2.2.2.1
theorem k0_idx30_inb : ∀ (v194 : IVec S16 32) (k0_hw6 : k0_chk6 v194), ∀ a x, ((![v194] : Fin 1 → IVec S16 32) a x).toNat < S512.size a := fun v194 k0_hw6 => k0_hw6.1.2.2.2.2.2.2.1
theorem k0_idx34_inb : ∀ (v194 : IVec S16 32) (k0_hw6 : k0_chk6 v194), ∀ a x, ((![v194] : Fin 1 → IVec S16 32) a x).toNat < S512.size a := fun v194 k0_hw6 => k0_hw6.1.2.2.2.2.2.2.2.1
theorem k0_idx38_inb : ∀ (v194 : IVec S16 32) (k0_hw6 : k0_chk6 v194), ∀ a x, ((![v194] : Fin 1 → IVec S16 32) a x).toNat < S512.size a := fun v194 k0_hw6 => k0_hw6.1.2.2.2.2.2.2.2.2.1
theorem k0_idx42_inb : ∀ (v194 : IVec S16 32) (k0_hw6 : k0_chk6 v194), ∀ a x, ((![v194] : Fin 1 → IVec S16 32) a x).toNat < S512.size a := fun v194 k0_hw6 => k0_hw6.1.2.2.2.2.2.2.2.2.2.1
theorem k0_idx46_inb : ∀ (v194 : IVec S16 32) (k0_hw6 : k0_chk6 v194), ∀ a x, ((![v194] : Fin 1 → IVec S16 32) a x).toNat < S512.size a := fun v194 k0_hw6 => k0_hw6.1.2.2.2.2.2.2.2.2.2.2.1
theorem k0_idx50_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.1
theorem k0_idx54_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.1
theorem k0_idx58_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.1
theorem k0_idx62_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.1
theorem k0_idx66_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.1
theorem k0_idx70_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.1
theorem k0_idx74_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.1
theorem k0_idx78_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.1
theorem k0_idx82_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.1
theorem k0_idx86_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.1
theorem k0_idx90_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.1
theorem k0_idx94_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.1
theorem k0_idx98_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.1
theorem k0_idx102_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.1
theorem k0_idx106_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.1
theorem k0_idx110_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.1
theorem k0_idx114_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.2.1
theorem k0_idx118_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.2.2.1
theorem k0_idx122_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.2.2.2.1
theorem k0_idx126_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.2.2.2.2.1
theorem k0_idx130_inb : ∀ (v194 : IVec S16 32) (k0_hw6 : k0_chk6 v194), ∀ a x, ((![v194] : Fin 1 → IVec S16 32) a x).toNat < S512.size a := fun v194 k0_hw6 => k0_hw6.1.2.2.2.2.2.2.2.2.2.2.2.2.2.2.2.2.2.2.2.2.2.2.2.2.2.2.2.2.2.2.2
theorem k0_idx134_inb : ∀ (v194 : IVec S16 32) (k0_hw6 : k0_chk6 v194), ∀ a x, ((![v194] : Fin 1 → IVec S16 32) a x).toNat < S512.size a := fun v194 k0_hw6 => k0_hw6.2.1
theorem k0_idx138_inb : ∀ (v194 : IVec S16 32) (k0_hw6 : k0_chk6 v194), ∀ a x, ((![v194] : Fin 1 → IVec S16 32) a x).toNat < S512.size a := fun v194 k0_hw6 => k0_hw6.2.2.1
theorem k0_idx142_inb : ∀ (v194 : IVec S16 32) (k0_hw6 : k0_chk6 v194), ∀ a x, ((![v194] : Fin 1 → IVec S16 32) a x).toNat < S512.size a := fun v194 k0_hw6 => k0_hw6.2.2.2.1
theorem k0_idx146_inb : ∀ (v194 : IVec S16 32) (k0_hw6 : k0_chk6 v194), ∀ a x, ((![v194] : Fin 1 → IVec S16 32) a x).toNat < S512.size a := fun v194 k0_hw6 => k0_hw6.2.2.2.2.1
theorem k0_idx150_inb : ∀ (v194 : IVec S16 32) (k0_hw6 : k0_chk6 v194), ∀ a x, ((![v194] : Fin 1 → IVec S16 32) a x).toNat < S512.size a := fun v194 k0_hw6 => k0_hw6.2.2.2.2.2.1
theorem k0_idx154_inb : ∀ (v194 : IVec S16 32) (k0_hw6 : k0_chk6 v194), ∀ a x, ((![v194] : Fin 1 → IVec S16 32) a x).toNat < S512.size a := fun v194 k0_hw6 => k0_hw6.2.2.2.2.2.2.1
theorem k0_idx158_inb : ∀ (v194 : IVec S16 32) (k0_hw6 : k0_chk6 v194), ∀ a x, ((![v194] : Fin 1 → IVec S16 32) a x).toNat < S512.size a := fun v194 k0_hw6 => k0_hw6.2.2.2.2.2.2.2.1
theorem k0_idx162_inb : ∀ (v194 : IVec S16 32) (k0_hw6 : k0_chk6 v194), ∀ a x, ((![v194] : Fin 1 → IVec S16 32) a x).toNat < S512.size a := fun v194 k0_hw6 => k0_hw6.2.2.2.2.2.2.2.2.1
theorem k0_idx166_inb : ∀ (v194 : IVec S16 32) (k0_hw6 : k0_chk6 v194), ∀ a x, ((![v194] : Fin 1 → IVec S16 32) a x).toNat < S512.size a := fun v194 k0_hw6 => k0_hw6.2.2.2.2.2.2.2.2.2.1
theorem k0_idx170_inb : ∀ (v194 : IVec S16 32) (k0_hw6 : k0_chk6 v194), ∀ a x, ((![v194] : Fin 1 → IVec S16 32) a x).toNat < S512.size a := fun v194 k0_hw6 => k0_hw6.2.2.2.2.2.2.2.2.2.2.1
theorem k0_idx174_inb : ∀ (v194 : IVec S16 32) (k0_hw6 : k0_chk6 v194), ∀ a x, ((![v194] : Fin 1 → IVec S16 32) a x).toNat < S512.size a := fun v194 k0_hw6 => k0_hw6.2.2.2.2.2.2.2.2.2.2.2.1
theorem k0_idx178_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.1
theorem k0_idx182_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.1
theorem k0_idx186_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.1
theorem k0_idx190_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.1
theorem k0_idx194_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.1
theorem k0_idx198_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.1
theorem k0_idx202_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.1
theorem k0_idx206_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.1
theorem k0_idx210_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.1
theorem k0_idx214_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.1
theorem k0_idx218_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.1
theorem k0_idx222_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.1
theorem k0_idx226_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.1
theorem k0_idx230_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.1
theorem k0_idx234_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.1
theorem k0_idx238_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.1
theorem k0_idx242_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.2.1
theorem k0_idx246_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.2.2.1
theorem k0_idx250_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.2.2.2.1
theorem k0_idx254_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.2.2.2.2.1
theorem k0_idx258_inb : ∀ (v194 : IVec S16 32) (k0_hw6 : k0_chk6 v194), ∀ a x, ((![v194] : Fin 1 → IVec S16 32) a x).toNat < S512.size a := fun v194 k0_hw6 => k0_hw6.2.2.2.2.2.2.2.2.2.2.2.2.2.2.2.2.2.2.2.2.2.2.2.2.2.2.2.2.2.2.2.2
def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let v32 : BitVec 32 := Scalar.addi v2 v25
  let c0_i32_22 : BitVec 32 := 0#32
  ![v32.toNat, 0]
def k0_cond2 (k0_t2 : Fin k0_t2_loop.trips) : BitVec 1 :=
  let c0_i32_6 : BitVec 32 := 0#32
  let c1_i32_7 : BitVec 32 := 1#32
  let arg12 : BitVec 32 := Scf.iv c0_i32_6 c1_i32_7 k0_t2
  let c0_i32_24 : BitVec 32 := 0#32
  let v37 : BitVec 1 := Scalar.cmpi .sgt arg12 c0_i32_24
  let v38 : BitVec 32 := Scalar.extui v37
  let c0_i32_25 : BitVec 32 := 0#32
  let v39 : BitVec 1 := Scalar.cmpi .ne v38 c0_i32_25
  v39

def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let c1_i32_14 : BitVec 32 := 1#32
  let v26 : BitVec 32 := Scalar.addi v25 c1_i32_14
  let c2_i32_34 : BitVec 32 := 2#32
  let v47 : BitVec 32 := Scalar.subi v26 c2_i32_34
  let v48 : BitVec 32 := Scalar.addi v2 v47
  let c0_i32_35 : BitVec 32 := 0#32
  ![v48.toNat, 0]
@[reducible] def k0_t4_loop : Scf.Loop 32 :=
  let c0_i32_27 : BitVec 32 := 0#32
  let c8_i32_28 : BitVec 32 := 8#32
  let v40 : BitVec 32 := Scalar.addi c0_i32_27 c8_i32_28
  let c1_i32_29 : BitVec 32 := 1#32
  ⟨c0_i32_27, v40, c1_i32_29⟩
def k0_off12 (k0_t2 : Fin k0_t2_loop.trips) (k0_t4 : Fin k0_t4_loop.trips) (c0_i32_42 : BitVec 32) : Fin 4 → Nat :=
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let c1_i32_14 : BitVec 32 := 1#32
  let v26 : BitVec 32 := Scalar.addi v25 c1_i32_14
  let c0_i32_35 : BitVec 32 := 0#32
  let v48 : BitVec 1 := Scalar.cmpi .sgt v26 c0_i32_35
  let v49 : BitVec 32 := Scalar.extui v48
  let c0_i32_36 : BitVec 32 := 0#32
  let v50 : BitVec 1 := Scalar.cmpi .slt v26 c0_i32_36
  let v51 : BitVec 32 := Scalar.extui v50
  let v52 : BitVec 32 := Scalar.subi v49 v51
  let c8_i32_34 : BitVec 32 := 8#32
  let c0_i32_37 : BitVec 32 := 0#32
  let v53 : BitVec 1 := Scalar.cmpi .sgt c8_i32_34 c0_i32_37
  let v54 : BitVec 32 := Scalar.extui v53
  let c0_i32_38 : BitVec 32 := 0#32
  let v55 : BitVec 1 := Scalar.cmpi .slt c8_i32_34 c0_i32_38
  let v56 : BitVec 32 := Scalar.extui v55
  let v57 : BitVec 32 := Scalar.subi v54 v56
  let v58 : BitVec 1 := Scalar.cmpi .ne v52 v57
  let v59 : BitVec 32 := Scalar.remsi v26 c8_i32_34
  let c0_i32_39 : BitVec 32 := 0#32
  let v60 : BitVec 1 := Scalar.cmpi .ne v59 c0_i32_39
  let v61 : BitVec 1 := Scalar.andi v58 v60
  let v47 : BitVec 32 := Scalar.divsi v26 c8_i32_34
  let c1_i32_40 : BitVec 32 := 1#32
  let v62 : BitVec 32 := Scalar.subi v47 c1_i32_40
  let v63 : BitVec 32 := Scalar.select v61 v62 v47
  let v88 : Index := Scalar.indexCast v63
  let c0_i32_27 : BitVec 32 := 0#32
  let c1_i32_29 : BitVec 32 := 1#32
  let arg14 : BitVec 32 := Scf.iv c0_i32_27 c1_i32_29 k0_t4
  let c4_i32 : BitVec 32 := 4#32
  let v66 : BitVec 32 := Scalar.muli arg14 c4_i32
  let v67 : BitVec 32 := Scalar.addi v66 c0_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c8_i32_43 : BitVec 32 := 8#32
  let c0_i32_46 : BitVec 32 := 0#32
  let v74 : BitVec 1 := Scalar.cmpi .sgt c8_i32_43 c0_i32_46
  let v75 : BitVec 32 := Scalar.extui v74
  let c0_i32_47 : BitVec 32 := 0#32
  let v76 : BitVec 1 := Scalar.cmpi .slt c8_i32_43 c0_i32_47
  let v77 : BitVec 32 := Scalar.extui v76
  let v78 : BitVec 32 := Scalar.subi v75 v77
  let v79 : BitVec 1 := Scalar.cmpi .ne v73 v78
  let v80 : BitVec 32 := Scalar.remsi v67 c8_i32_43
  let c0_i32_48 : BitVec 32 := 0#32
  let v81 : BitVec 1 := Scalar.cmpi .ne v80 c0_i32_48
  let v82 : BitVec 1 := Scalar.andi v79 v81
  let v68 : BitVec 32 := Scalar.divsi v67 c8_i32_43
  let c1_i32_49 : BitVec 32 := 1#32
  let v83 : BitVec 32 := Scalar.subi v68 c1_i32_49
  let v84 : BitVec 32 := Scalar.select v82 v83 v68
  let v89 : Index := Scalar.indexCast v84
  let c8_i32_41 : BitVec 32 := 8#32
  let v64 : BitVec 32 := Scalar.muli v63 c8_i32_41
  let v65 : BitVec 32 := Scalar.subi v26 v64
  let v90 : Index := Scalar.indexCast v65
  let c8_i32_50 : BitVec 32 := 8#32
  let v85 : BitVec 32 := Scalar.muli v84 c8_i32_50
  let v86 : BitVec 32 := Scalar.subi v67 v85
  let c16_i32_51 : BitVec 32 := 16#32
  let v87 : BitVec 32 := Scalar.muli v86 c16_i32_51
  let v91 : Index := Scalar.indexCast v87
  ![v88.toNat, v89.toNat, v90.toNat, v91.toNat]
def k0_off13 (k0_t4 : Fin k0_t4_loop.trips) (c0_i32_42 : BitVec 32) (c0_i32_99 : BitVec 32) : Fin 1 → Nat :=
  let c0_i32_27 : BitVec 32 := 0#32
  let c1_i32_29 : BitVec 32 := 1#32
  let arg14 : BitVec 32 := Scf.iv c0_i32_27 c1_i32_29 k0_t4
  let c4_i32 : BitVec 32 := 4#32
  let v66 : BitVec 32 := Scalar.muli arg14 c4_i32
  let v67 : BitVec 32 := Scalar.addi v66 c0_i32_42
  let c0_i32_44 : BitVec 32 := 0#32
  let v69 : BitVec 1 := Scalar.cmpi .sgt v67 c0_i32_44
  let v70 : BitVec 32 := Scalar.extui v69
  let c0_i32_45 : BitVec 32 := 0#32
  let v71 : BitVec 1 := Scalar.cmpi .slt v67 c0_i32_45
  let v72 : BitVec 32 := Scalar.extui v71
  let v73 : BitVec 32 := Scalar.subi v70 v72
  let c8_i32_43 : BitVec 32 := 8#32
  let c0_i32_46 : BitVec 32 := 0#32
  let v74 : BitVec 1 := Scalar.cmpi .sgt c8_i32_43 c0_i32_46
  let v75 : BitVec 32 := Scalar.extui v74
  let c0_i32_47 : BitVec 32 := 0#32
  let v76 : BitVec 1 := Scalar.cmpi .slt c8_i32_43 c0_i32_47
  let v77 : BitVec 32 := Scalar.extui v76
  let v78 : BitVec 32 := Scalar.subi v75 v77
  let v79 : BitVec 1 := Scalar.cmpi .ne v73 v78
  let v80 : BitVec 32 := Scalar.remsi v67 c8_i32_43
  let c0_i32_48 : BitVec 32 := 0#32
  let v81 : BitVec 1 := Scalar.cmpi .ne v80 c0_i32_48
  let v82 : BitVec 1 := Scalar.andi v79 v81
  let v68 : BitVec 32 := Scalar.divsi v67 c8_i32_43
  let c1_i32_49 : BitVec 32 := 1#32
  let v83 : BitVec 32 := Scalar.subi v68 c1_i32_49
  let v84 : BitVec 32 := Scalar.select v82 v83 v68
  let c1024_i32 : BitVec 32 := 1024#32
  let v96 : BitVec 32 := Scalar.muli v84 c1024_i32
  let c8_i32_50 : BitVec 32 := 8#32
  let v85 : BitVec 32 := Scalar.muli v84 c8_i32_50
  let v86 : BitVec 32 := Scalar.subi v67 v85
  let c16_i32_53 : BitVec 32 := 16#32
  let v97 : BitVec 32 := Scalar.muli v86 c16_i32_53
  let v98 : BitVec 32 := Scalar.addi v96 v97
  let v206 : BitVec 32 := Scalar.addi v98 c0_i32_99
  let v207 : Index := Scalar.indexCast v206
  ![v207.toNat]
def k0_off13_at (r : Fin 256) : BitVec 32 × BitVec 32 :=
  if r.val < 128 then
    if r.val < 64 then
      if r.val < 32 then
        if r.val < 16 then
          if r.val < 8 then
            if r.val < 4 then
              if r.val < 2 then
                if r.val < 1 then
                  (0#32, 0#32)
                else
                  (1#32, 0#32)
              else
                if r.val < 3 then
                  (2#32, 0#32)
                else
                  (3#32, 0#32)
            else
              if r.val < 6 then
                if r.val < 5 then
                  (0#32, 128#32)
                else
                  (1#32, 128#32)
              else
                if r.val < 7 then
                  (2#32, 128#32)
                else
                  (3#32, 128#32)
          else
            if r.val < 12 then
              if r.val < 10 then
                if r.val < 9 then
                  (0#32, 256#32)
                else
                  (1#32, 256#32)
              else
                if r.val < 11 then
                  (2#32, 256#32)
                else
                  (3#32, 256#32)
            else
              if r.val < 14 then
                if r.val < 13 then
                  (0#32, 384#32)
                else
                  (1#32, 384#32)
              else
                if r.val < 15 then
                  (2#32, 384#32)
                else
                  (3#32, 384#32)
        else
          if r.val < 24 then
            if r.val < 20 then
              if r.val < 18 then
                if r.val < 17 then
                  (0#32, 512#32)
                else
                  (1#32, 512#32)
              else
                if r.val < 19 then
                  (2#32, 512#32)
                else
                  (3#32, 512#32)
            else
              if r.val < 22 then
                if r.val < 21 then
                  (0#32, 640#32)
                else
                  (1#32, 640#32)
              else
                if r.val < 23 then
                  (2#32, 640#32)
                else
                  (3#32, 640#32)
          else
            if r.val < 28 then
              if r.val < 26 then
                if r.val < 25 then
                  (0#32, 768#32)
                else
                  (1#32, 768#32)
              else
                if r.val < 27 then
                  (2#32, 768#32)
                else
                  (3#32, 768#32)
            else
              if r.val < 30 then
                if r.val < 29 then
                  (0#32, 896#32)
                else
                  (1#32, 896#32)
              else
                if r.val < 31 then
                  (2#32, 896#32)
                else
                  (3#32, 896#32)
      else
        if r.val < 48 then
          if r.val < 40 then
            if r.val < 36 then
              if r.val < 34 then
                if r.val < 33 then
                  (0#32, 4096#32)
                else
                  (1#32, 4096#32)
              else
                if r.val < 35 then
                  (2#32, 4096#32)
                else
                  (3#32, 4096#32)
            else
              if r.val < 38 then
                if r.val < 37 then
                  (0#32, 4224#32)
                else
                  (1#32, 4224#32)
              else
                if r.val < 39 then
                  (2#32, 4224#32)
                else
                  (3#32, 4224#32)
          else
            if r.val < 44 then
              if r.val < 42 then
                if r.val < 41 then
                  (0#32, 4352#32)
                else
                  (1#32, 4352#32)
              else
                if r.val < 43 then
                  (2#32, 4352#32)
                else
                  (3#32, 4352#32)
            else
              if r.val < 46 then
                if r.val < 45 then
                  (0#32, 4480#32)
                else
                  (1#32, 4480#32)
              else
                if r.val < 47 then
                  (2#32, 4480#32)
                else
                  (3#32, 4480#32)
        else
          if r.val < 56 then
            if r.val < 52 then
              if r.val < 50 then
                if r.val < 49 then
                  (0#32, 4608#32)
                else
                  (1#32, 4608#32)
              else
                if r.val < 51 then
                  (2#32, 4608#32)
                else
                  (3#32, 4608#32)
            else
              if r.val < 54 then
                if r.val < 53 then
                  (0#32, 4736#32)
                else
                  (1#32, 4736#32)
              else
                if r.val < 55 then
                  (2#32, 4736#32)
                else
                  (3#32, 4736#32)
          else
            if r.val < 60 then
              if r.val < 58 then
                if r.val < 57 then
                  (0#32, 4864#32)
                else
                  (1#32, 4864#32)
              else
                if r.val < 59 then
                  (2#32, 4864#32)
                else
                  (3#32, 4864#32)
            else
              if r.val < 62 then
                if r.val < 61 then
                  (0#32, 4992#32)
                else
                  (1#32, 4992#32)
              else
                if r.val < 63 then
                  (2#32, 4992#32)
                else
                  (3#32, 4992#32)
    else
      if r.val < 96 then
        if r.val < 80 then
          if r.val < 72 then
            if r.val < 68 then
              if r.val < 66 then
                if r.val < 65 then
                  (0#32, 8192#32)
                else
                  (1#32, 8192#32)
              else
                if r.val < 67 then
                  (2#32, 8192#32)
                else
                  (3#32, 8192#32)
            else
              if r.val < 70 then
                if r.val < 69 then
                  (0#32, 8320#32)
                else
                  (1#32, 8320#32)
              else
                if r.val < 71 then
                  (2#32, 8320#32)
                else
                  (3#32, 8320#32)
          else
            if r.val < 76 then
              if r.val < 74 then
                if r.val < 73 then
                  (0#32, 8448#32)
                else
                  (1#32, 8448#32)
              else
                if r.val < 75 then
                  (2#32, 8448#32)
                else
                  (3#32, 8448#32)
            else
              if r.val < 78 then
                if r.val < 77 then
                  (0#32, 8576#32)
                else
                  (1#32, 8576#32)
              else
                if r.val < 79 then
                  (2#32, 8576#32)
                else
                  (3#32, 8576#32)
        else
          if r.val < 88 then
            if r.val < 84 then
              if r.val < 82 then
                if r.val < 81 then
                  (0#32, 8704#32)
                else
                  (1#32, 8704#32)
              else
                if r.val < 83 then
                  (2#32, 8704#32)
                else
                  (3#32, 8704#32)
            else
              if r.val < 86 then
                if r.val < 85 then
                  (0#32, 8832#32)
                else
                  (1#32, 8832#32)
              else
                if r.val < 87 then
                  (2#32, 8832#32)
                else
                  (3#32, 8832#32)
          else
            if r.val < 92 then
              if r.val < 90 then
                if r.val < 89 then
                  (0#32, 8960#32)
                else
                  (1#32, 8960#32)
              else
                if r.val < 91 then
                  (2#32, 8960#32)
                else
                  (3#32, 8960#32)
            else
              if r.val < 94 then
                if r.val < 93 then
                  (0#32, 9088#32)
                else
                  (1#32, 9088#32)
              else
                if r.val < 95 then
                  (2#32, 9088#32)
                else
                  (3#32, 9088#32)
      else
        if r.val < 112 then
          if r.val < 104 then
            if r.val < 100 then
              if r.val < 98 then
                if r.val < 97 then
                  (0#32, 12288#32)
                else
                  (1#32, 12288#32)
              else
                if r.val < 99 then
                  (2#32, 12288#32)
                else
                  (3#32, 12288#32)
            else
              if r.val < 102 then
                if r.val < 101 then
                  (0#32, 12416#32)
                else
                  (1#32, 12416#32)
              else
                if r.val < 103 then
                  (2#32, 12416#32)
                else
                  (3#32, 12416#32)
          else
            if r.val < 108 then
              if r.val < 106 then
                if r.val < 105 then
                  (0#32, 12544#32)
                else
                  (1#32, 12544#32)
              else
                if r.val < 107 then
                  (2#32, 12544#32)
                else
                  (3#32, 12544#32)
            else
              if r.val < 110 then
                if r.val < 109 then
                  (0#32, 12672#32)
                else
                  (1#32, 12672#32)
              else
                if r.val < 111 then
                  (2#32, 12672#32)
                else
                  (3#32, 12672#32)
        else
          if r.val < 120 then
            if r.val < 116 then
              if r.val < 114 then
                if r.val < 113 then
                  (0#32, 12800#32)
                else
                  (1#32, 12800#32)
              else
                if r.val < 115 then
                  (2#32, 12800#32)
                else
                  (3#32, 12800#32)
            else
              if r.val < 118 then
                if r.val < 117 then
                  (0#32, 12928#32)
                else
                  (1#32, 12928#32)
              else
                if r.val < 119 then
                  (2#32, 12928#32)
                else
                  (3#32, 12928#32)
          else
            if r.val < 124 then
              if r.val < 122 then
                if r.val < 121 then
                  (0#32, 13056#32)
                else
                  (1#32, 13056#32)
              else
                if r.val < 123 then
                  (2#32, 13056#32)
                else
                  (3#32, 13056#32)
            else
              if r.val < 126 then
                if r.val < 125 then
                  (0#32, 13184#32)
                else
                  (1#32, 13184#32)
              else
                if r.val < 127 then
                  (2#32, 13184#32)
                else
                  (3#32, 13184#32)
  else
    if r.val < 192 then
      if r.val < 160 then
        if r.val < 144 then
          if r.val < 136 then
            if r.val < 132 then
              if r.val < 130 then
                if r.val < 129 then
                  (0#32, 16384#32)
                else
                  (1#32, 16384#32)
              else
                if r.val < 131 then
                  (2#32, 16384#32)
                else
                  (3#32, 16384#32)
            else
              if r.val < 134 then
                if r.val < 133 then
                  (0#32, 16512#32)
                else
                  (1#32, 16512#32)
              else
                if r.val < 135 then
                  (2#32, 16512#32)
                else
                  (3#32, 16512#32)
          else
            if r.val < 140 then
              if r.val < 138 then
                if r.val < 137 then
                  (0#32, 16640#32)
                else
                  (1#32, 16640#32)
              else
                if r.val < 139 then
                  (2#32, 16640#32)
                else
                  (3#32, 16640#32)
            else
              if r.val < 142 then
                if r.val < 141 then
                  (0#32, 16768#32)
                else
                  (1#32, 16768#32)
              else
                if r.val < 143 then
                  (2#32, 16768#32)
                else
                  (3#32, 16768#32)
        else
          if r.val < 152 then
            if r.val < 148 then
              if r.val < 146 then
                if r.val < 145 then
                  (0#32, 16896#32)
                else
                  (1#32, 16896#32)
              else
                if r.val < 147 then
                  (2#32, 16896#32)
                else
                  (3#32, 16896#32)
            else
              if r.val < 150 then
                if r.val < 149 then
                  (0#32, 17024#32)
                else
                  (1#32, 17024#32)
              else
                if r.val < 151 then
                  (2#32, 17024#32)
                else
                  (3#32, 17024#32)
          else
            if r.val < 156 then
              if r.val < 154 then
                if r.val < 153 then
                  (0#32, 17152#32)
                else
                  (1#32, 17152#32)
              else
                if r.val < 155 then
                  (2#32, 17152#32)
                else
                  (3#32, 17152#32)
            else
              if r.val < 158 then
                if r.val < 157 then
                  (0#32, 17280#32)
                else
                  (1#32, 17280#32)
              else
                if r.val < 159 then
                  (2#32, 17280#32)
                else
                  (3#32, 17280#32)
      else
        if r.val < 176 then
          if r.val < 168 then
            if r.val < 164 then
              if r.val < 162 then
                if r.val < 161 then
                  (0#32, 20480#32)
                else
                  (1#32, 20480#32)
              else
                if r.val < 163 then
                  (2#32, 20480#32)
                else
                  (3#32, 20480#32)
            else
              if r.val < 166 then
                if r.val < 165 then
                  (0#32, 20608#32)
                else
                  (1#32, 20608#32)
              else
                if r.val < 167 then
                  (2#32, 20608#32)
                else
                  (3#32, 20608#32)
          else
            if r.val < 172 then
              if r.val < 170 then
                if r.val < 169 then
                  (0#32, 20736#32)
                else
                  (1#32, 20736#32)
              else
                if r.val < 171 then
                  (2#32, 20736#32)
                else
                  (3#32, 20736#32)
            else
              if r.val < 174 then
                if r.val < 173 then
                  (0#32, 20864#32)
                else
                  (1#32, 20864#32)
              else
                if r.val < 175 then
                  (2#32, 20864#32)
                else
                  (3#32, 20864#32)
        else
          if r.val < 184 then
            if r.val < 180 then
              if r.val < 178 then
                if r.val < 177 then
                  (0#32, 20992#32)
                else
                  (1#32, 20992#32)
              else
                if r.val < 179 then
                  (2#32, 20992#32)
                else
                  (3#32, 20992#32)
            else
              if r.val < 182 then
                if r.val < 181 then
                  (0#32, 21120#32)
                else
                  (1#32, 21120#32)
              else
                if r.val < 183 then
                  (2#32, 21120#32)
                else
                  (3#32, 21120#32)
          else
            if r.val < 188 then
              if r.val < 186 then
                if r.val < 185 then
                  (0#32, 21248#32)
                else
                  (1#32, 21248#32)
              else
                if r.val < 187 then
                  (2#32, 21248#32)
                else
                  (3#32, 21248#32)
            else
              if r.val < 190 then
                if r.val < 189 then
                  (0#32, 21376#32)
                else
                  (1#32, 21376#32)
              else
                if r.val < 191 then
                  (2#32, 21376#32)
                else
                  (3#32, 21376#32)
    else
      if r.val < 224 then
        if r.val < 208 then
          if r.val < 200 then
            if r.val < 196 then
              if r.val < 194 then
                if r.val < 193 then
                  (0#32, 24576#32)
                else
                  (1#32, 24576#32)
              else
                if r.val < 195 then
                  (2#32, 24576#32)
                else
                  (3#32, 24576#32)
            else
              if r.val < 198 then
                if r.val < 197 then
                  (0#32, 24704#32)
                else
                  (1#32, 24704#32)
              else
                if r.val < 199 then
                  (2#32, 24704#32)
                else
                  (3#32, 24704#32)
          else
            if r.val < 204 then
              if r.val < 202 then
                if r.val < 201 then
                  (0#32, 24832#32)
                else
                  (1#32, 24832#32)
              else
                if r.val < 203 then
                  (2#32, 24832#32)
                else
                  (3#32, 24832#32)
            else
              if r.val < 206 then
                if r.val < 205 then
                  (0#32, 24960#32)
                else
                  (1#32, 24960#32)
              else
                if r.val < 207 then
                  (2#32, 24960#32)
                else
                  (3#32, 24960#32)
        else
          if r.val < 216 then
            if r.val < 212 then
              if r.val < 210 then
                if r.val < 209 then
                  (0#32, 25088#32)
                else
                  (1#32, 25088#32)
              else
                if r.val < 211 then
                  (2#32, 25088#32)
                else
                  (3#32, 25088#32)
            else
              if r.val < 214 then
                if r.val < 213 then
                  (0#32, 25216#32)
                else
                  (1#32, 25216#32)
              else
                if r.val < 215 then
                  (2#32, 25216#32)
                else
                  (3#32, 25216#32)
          else
            if r.val < 220 then
              if r.val < 218 then
                if r.val < 217 then
                  (0#32, 25344#32)
                else
                  (1#32, 25344#32)
              else
                if r.val < 219 then
                  (2#32, 25344#32)
                else
                  (3#32, 25344#32)
            else
              if r.val < 222 then
                if r.val < 221 then
                  (0#32, 25472#32)
                else
                  (1#32, 25472#32)
              else
                if r.val < 223 then
                  (2#32, 25472#32)
                else
                  (3#32, 25472#32)
      else
        if r.val < 240 then
          if r.val < 232 then
            if r.val < 228 then
              if r.val < 226 then
                if r.val < 225 then
                  (0#32, 28672#32)
                else
                  (1#32, 28672#32)
              else
                if r.val < 227 then
                  (2#32, 28672#32)
                else
                  (3#32, 28672#32)
            else
              if r.val < 230 then
                if r.val < 229 then
                  (0#32, 28800#32)
                else
                  (1#32, 28800#32)
              else
                if r.val < 231 then
                  (2#32, 28800#32)
                else
                  (3#32, 28800#32)
          else
            if r.val < 236 then
              if r.val < 234 then
                if r.val < 233 then
                  (0#32, 28928#32)
                else
                  (1#32, 28928#32)
              else
                if r.val < 235 then
                  (2#32, 28928#32)
                else
                  (3#32, 28928#32)
            else
              if r.val < 238 then
                if r.val < 237 then
                  (0#32, 29056#32)
                else
                  (1#32, 29056#32)
              else
                if r.val < 239 then
                  (2#32, 29056#32)
                else
                  (3#32, 29056#32)
        else
          if r.val < 248 then
            if r.val < 244 then
              if r.val < 242 then
                if r.val < 241 then
                  (0#32, 29184#32)
                else
                  (1#32, 29184#32)
              else
                if r.val < 243 then
                  (2#32, 29184#32)
                else
                  (3#32, 29184#32)
            else
              if r.val < 246 then
                if r.val < 245 then
                  (0#32, 29312#32)
                else
                  (1#32, 29312#32)
              else
                if r.val < 247 then
                  (2#32, 29312#32)
                else
                  (3#32, 29312#32)
          else
            if r.val < 252 then
              if r.val < 250 then
                if r.val < 249 then
                  (0#32, 29440#32)
                else
                  (1#32, 29440#32)
              else
                if r.val < 251 then
                  (2#32, 29440#32)
                else
                  (3#32, 29440#32)
            else
              if r.val < 254 then
                if r.val < 253 then
                  (0#32, 29568#32)
                else
                  (1#32, 29568#32)
              else
                if r.val < 255 then
                  (2#32, 29568#32)
                else
                  (3#32, 29568#32)

def k0_chk7_0 (v95 : IVec S16 32) : Prop :=
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a)
def k0_chk7_1 (v95 : IVec S16 32) : Prop :=
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a) ∧
  (∀ a x, ((![v95] : Fin 1 → IVec S16 32) a x).toNat < S512.size a)
def k0_chk7 (v95 : IVec S16 32) : Prop :=
  k0_chk7_0 v95 ∧
  k0_chk7_1 v95
theorem k0_idx259_inb : ∀ (v95 : IVec S16 32) (k0_hw7 : k0_chk7 v95), ∀ a x, ((![v95] : Fin 1 → IVec S16 32) a x).toNat < S512.size a := fun v95 k0_hw7 => k0_hw7.1.1
theorem k0_idx263_inb : ∀ (v95 : IVec S16 32) (k0_hw7 : k0_chk7 v95), ∀ a x, ((![v95] : Fin 1 → IVec S16 32) a x).toNat < S512.size a := fun v95 k0_hw7 => k0_hw7.1.2.1
theorem k0_idx267_inb : ∀ (v95 : IVec S16 32) (k0_hw7 : k0_chk7 v95), ∀ a x, ((![v95] : Fin 1 → IVec S16 32) a x).toNat < S512.size a := fun v95 k0_hw7 => k0_hw7.1.2.2.1
theorem k0_idx271_inb : ∀ (v95 : IVec S16 32) (k0_hw7 : k0_chk7 v95), ∀ a x, ((![v95] : Fin 1 → IVec S16 32) a x).toNat < S512.size a := fun v95 k0_hw7 => k0_hw7.1.2.2.2.1
theorem k0_idx275_inb : ∀ (v95 : IVec S16 32) (k0_hw7 : k0_chk7 v95), ∀ a x, ((![v95] : Fin 1 → IVec S16 32) a x).toNat < S512.size a := fun v95 k0_hw7 => k0_hw7.1.2.2.2.2.1
theorem k0_idx279_inb : ∀ (v95 : IVec S16 32) (k0_hw7 : k0_chk7 v95), ∀ a x, ((![v95] : Fin 1 → IVec S16 32) a x).toNat < S512.size a := fun v95 k0_hw7 => k0_hw7.1.2.2.2.2.2.1
theorem k0_idx283_inb : ∀ (v95 : IVec S16 32) (k0_hw7 : k0_chk7 v95), ∀ a x, ((![v95] : Fin 1 → IVec S16 32) a x).toNat < S512.size a := fun v95 k0_hw7 => k0_hw7.1.2.2.2.2.2.2.1
theorem k0_idx287_inb : ∀ (v95 : IVec S16 32) (k0_hw7 : k0_chk7 v95), ∀ a x, ((![v95] : Fin 1 → IVec S16 32) a x).toNat < S512.size a := fun v95 k0_hw7 => k0_hw7.1.2.2.2.2.2.2.2.1
theorem k0_idx291_inb : ∀ (v95 : IVec S16 32) (k0_hw7 : k0_chk7 v95), ∀ a x, ((![v95] : Fin 1 → IVec S16 32) a x).toNat < S512.size a := fun v95 k0_hw7 => k0_hw7.1.2.2.2.2.2.2.2.2.1
theorem k0_idx295_inb : ∀ (v95 : IVec S16 32) (k0_hw7 : k0_chk7 v95), ∀ a x, ((![v95] : Fin 1 → IVec S16 32) a x).toNat < S512.size a := fun v95 k0_hw7 => k0_hw7.1.2.2.2.2.2.2.2.2.2.1
theorem k0_idx299_inb : ∀ (v95 : IVec S16 32) (k0_hw7 : k0_chk7 v95), ∀ a x, ((![v95] : Fin 1 → IVec S16 32) a x).toNat < S512.size a := fun v95 k0_hw7 => k0_hw7.1.2.2.2.2.2.2.2.2.2.2.1
theorem k0_idx303_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.1
theorem k0_idx307_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.1
theorem k0_idx311_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.1
theorem k0_idx315_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.1
theorem k0_idx319_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.1
theorem k0_idx323_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.1
theorem k0_idx327_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.1
theorem k0_idx331_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.1
theorem k0_idx335_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.1
theorem k0_idx339_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.1
theorem k0_idx343_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.1
theorem k0_idx347_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.1
theorem k0_idx351_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.1
theorem k0_idx355_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.1
theorem k0_idx359_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.1
theorem k0_idx363_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.1
theorem k0_idx367_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.2.1
theorem k0_idx371_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.2.2.1
theorem k0_idx375_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.2.2.2.1
theorem k0_idx379_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.2.2.2.2.1
theorem k0_idx383_inb : ∀ (v95 : IVec S16 32) (k0_hw7 : k0_chk7 v95), ∀ a x, ((![v95] : Fin 1 → IVec S16 32) a x).toNat < S512.size a := fun v95 k0_hw7 => k0_hw7.1.2.2.2.2.2.2.2.2.2.2.2.2.2.2.2.2.2.2.2.2.2.2.2.2.2.2.2.2.2.2.2
theorem k0_idx387_inb : ∀ (v95 : IVec S16 32) (k0_hw7 : k0_chk7 v95), ∀ a x, ((![v95] : Fin 1 → IVec S16 32) a x).toNat < S512.size a := fun v95 k0_hw7 => k0_hw7.2.1
theorem k0_idx391_inb : ∀ (v95 : IVec S16 32) (k0_hw7 : k0_chk7 v95), ∀ a x, ((![v95] : Fin 1 → IVec S16 32) a x).toNat < S512.size a := fun v95 k0_hw7 => k0_hw7.2.2.1
theorem k0_idx395_inb : ∀ (v95 : IVec S16 32) (k0_hw7 : k0_chk7 v95), ∀ a x, ((![v95] : Fin 1 → IVec S16 32) a x).toNat < S512.size a := fun v95 k0_hw7 => k0_hw7.2.2.2.1
theorem k0_idx399_inb : ∀ (v95 : IVec S16 32) (k0_hw7 : k0_chk7 v95), ∀ a x, ((![v95] : Fin 1 → IVec S16 32) a x).toNat < S512.size a := fun v95 k0_hw7 => k0_hw7.2.2.2.2.1
theorem k0_idx403_inb : ∀ (v95 : IVec S16 32) (k0_hw7 : k0_chk7 v95), ∀ a x, ((![v95] : Fin 1 → IVec S16 32) a x).toNat < S512.size a := fun v95 k0_hw7 => k0_hw7.2.2.2.2.2.1
theorem k0_idx407_inb : ∀ (v95 : IVec S16 32) (k0_hw7 : k0_chk7 v95), ∀ a x, ((![v95] : Fin 1 → IVec S16 32) a x).toNat < S512.size a := fun v95 k0_hw7 => k0_hw7.2.2.2.2.2.2.1
theorem k0_idx411_inb : ∀ (v95 : IVec S16 32) (k0_hw7 : k0_chk7 v95), ∀ a x, ((![v95] : Fin 1 → IVec S16 32) a x).toNat < S512.size a := fun v95 k0_hw7 => k0_hw7.2.2.2.2.2.2.2.1
theorem k0_idx415_inb : ∀ (v95 : IVec S16 32) (k0_hw7 : k0_chk7 v95), ∀ a x, ((![v95] : Fin 1 → IVec S16 32) a x).toNat < S512.size a := fun v95 k0_hw7 => k0_hw7.2.2.2.2.2.2.2.2.1
theorem k0_idx419_inb : ∀ (v95 : IVec S16 32) (k0_hw7 : k0_chk7 v95), ∀ a x, ((![v95] : Fin 1 → IVec S16 32) a x).toNat < S512.size a := fun v95 k0_hw7 => k0_hw7.2.2.2.2.2.2.2.2.2.1
theorem k0_idx423_inb : ∀ (v95 : IVec S16 32) (k0_hw7 : k0_chk7 v95), ∀ a x, ((![v95] : Fin 1 → IVec S16 32) a x).toNat < S512.size a := fun v95 k0_hw7 => k0_hw7.2.2.2.2.2.2.2.2.2.2.1
theorem k0_idx427_inb : ∀ (v95 : IVec S16 32) (k0_hw7 : k0_chk7 v95), ∀ a x, ((![v95] : Fin 1 → IVec S16 32) a x).toNat < S512.size a := fun v95 k0_hw7 => k0_hw7.2.2.2.2.2.2.2.2.2.2.2.1
theorem k0_idx431_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.1
theorem k0_idx435_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.1
theorem k0_idx439_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.1
theorem k0_idx443_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.1
theorem k0_idx447_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.1
theorem k0_idx451_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.1
theorem k0_idx455_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.1
theorem k0_idx459_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.1
theorem k0_idx463_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.1
theorem k0_idx467_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.1
theorem k0_idx471_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.1
theorem k0_idx475_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.1
theorem k0_idx479_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.1
theorem k0_idx483_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.1
theorem k0_idx487_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.1
theorem k0_idx491_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.1
theorem k0_idx495_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.2.1
theorem k0_idx499_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.2.2.1
theorem k0_idx503_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.2.2.2.1
theorem k0_idx507_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.2.2.2.2.1
theorem k0_idx511_inb : ∀ (v95 : IVec S16 32) (k0_hw7 : k0_chk7 v95), ∀ a x, ((![v95] : Fin 1 → IVec S16 32) a x).toNat < S512.size a := fun v95 k0_hw7 => k0_hw7.2.2.2.2.2.2.2.2.2.2.2.2.2.2.2.2.2.2.2.2.2.2.2.2.2.2.2.2.2.2.2.2

def k0_chk8_0 (v128 : IVec S16 32) : Prop :=
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a)
def k0_chk8_1 (v128 : IVec S16 32) : Prop :=
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a) ∧
  (∀ a x, ((![v128] : Fin 1 → IVec S16 32) a x).toNat < S512.size a)
def k0_chk8 (v128 : IVec S16 32) : Prop :=
  k0_chk8_0 v128 ∧
  k0_chk8_1 v128
theorem k0_idx260_inb : ∀ (v128 : IVec S16 32) (k0_hw8 : k0_chk8 v128), ∀ a x, ((![v128] : Fin 1 → IVec S16 32) a x).toNat < S512.size a := fun v128 k0_hw8 => k0_hw8.1.1
theorem k0_idx264_inb : ∀ (v128 : IVec S16 32) (k0_hw8 : k0_chk8 v128), ∀ a x, ((![v128] : Fin 1 → IVec S16 32) a x).toNat < S512.size a := fun v128 k0_hw8 => k0_hw8.1.2.1
theorem k0_idx268_inb : ∀ (v128 : IVec S16 32) (k0_hw8 : k0_chk8 v128), ∀ a x, ((![v128] : Fin 1 → IVec S16 32) a x).toNat < S512.size a := fun v128 k0_hw8 => k0_hw8.1.2.2.1
theorem k0_idx272_inb : ∀ (v128 : IVec S16 32) (k0_hw8 : k0_chk8 v128), ∀ a x, ((![v128] : Fin 1 → IVec S16 32) a x).toNat < S512.size a := fun v128 k0_hw8 => k0_hw8.1.2.2.2.1
theorem k0_idx276_inb : ∀ (v128 : IVec S16 32) (k0_hw8 : k0_chk8 v128), ∀ a x, ((![v128] : Fin 1 → IVec S16 32) a x).toNat < S512.size a := fun v128 k0_hw8 => k0_hw8.1.2.2.2.2.1
theorem k0_idx280_inb : ∀ (v128 : IVec S16 32) (k0_hw8 : k0_chk8 v128), ∀ a x, ((![v128] : Fin 1 → IVec S16 32) a x).toNat < S512.size a := fun v128 k0_hw8 => k0_hw8.1.2.2.2.2.2.1
theorem k0_idx284_inb : ∀ (v128 : IVec S16 32) (k0_hw8 : k0_chk8 v128), ∀ a x, ((![v128] : Fin 1 → IVec S16 32) a x).toNat < S512.size a := fun v128 k0_hw8 => k0_hw8.1.2.2.2.2.2.2.1
theorem k0_idx288_inb : ∀ (v128 : IVec S16 32) (k0_hw8 : k0_chk8 v128), ∀ a x, ((![v128] : Fin 1 → IVec S16 32) a x).toNat < S512.size a := fun v128 k0_hw8 => k0_hw8.1.2.2.2.2.2.2.2.1
theorem k0_idx292_inb : ∀ (v128 : IVec S16 32) (k0_hw8 : k0_chk8 v128), ∀ a x, ((![v128] : Fin 1 → IVec S16 32) a x).toNat < S512.size a := fun v128 k0_hw8 => k0_hw8.1.2.2.2.2.2.2.2.2.1
theorem k0_idx296_inb : ∀ (v128 : IVec S16 32) (k0_hw8 : k0_chk8 v128), ∀ a x, ((![v128] : Fin 1 → IVec S16 32) a x).toNat < S512.size a := fun v128 k0_hw8 => k0_hw8.1.2.2.2.2.2.2.2.2.2.1
theorem k0_idx300_inb : ∀ (v128 : IVec S16 32) (k0_hw8 : k0_chk8 v128), ∀ a x, ((![v128] : Fin 1 → IVec S16 32) a x).toNat < S512.size a := fun v128 k0_hw8 => k0_hw8.1.2.2.2.2.2.2.2.2.2.2.1
theorem k0_idx304_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.1
theorem k0_idx308_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.1
theorem k0_idx312_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.1
theorem k0_idx316_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.1
theorem k0_idx320_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.1
theorem k0_idx324_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.1
theorem k0_idx328_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.1
theorem k0_idx332_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.1
theorem k0_idx336_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.1
theorem k0_idx340_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.1
theorem k0_idx344_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.1
theorem k0_idx348_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.1
theorem k0_idx352_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.1
theorem k0_idx356_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.1
theorem k0_idx360_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.1
theorem k0_idx364_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.1
theorem k0_idx368_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.2.1
theorem k0_idx372_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.2.2.1
theorem k0_idx376_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.2.2.2.1
theorem k0_idx380_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.2.2.2.2.1
theorem k0_idx384_inb : ∀ (v128 : IVec S16 32) (k0_hw8 : k0_chk8 v128), ∀ a x, ((![v128] : Fin 1 → IVec S16 32) a x).toNat < S512.size a := fun v128 k0_hw8 => k0_hw8.1.2.2.2.2.2.2.2.2.2.2.2.2.2.2.2.2.2.2.2.2.2.2.2.2.2.2.2.2.2.2.2
theorem k0_idx388_inb : ∀ (v128 : IVec S16 32) (k0_hw8 : k0_chk8 v128), ∀ a x, ((![v128] : Fin 1 → IVec S16 32) a x).toNat < S512.size a := fun v128 k0_hw8 => k0_hw8.2.1
theorem k0_idx392_inb : ∀ (v128 : IVec S16 32) (k0_hw8 : k0_chk8 v128), ∀ a x, ((![v128] : Fin 1 → IVec S16 32) a x).toNat < S512.size a := fun v128 k0_hw8 => k0_hw8.2.2.1
theorem k0_idx396_inb : ∀ (v128 : IVec S16 32) (k0_hw8 : k0_chk8 v128), ∀ a x, ((![v128] : Fin 1 → IVec S16 32) a x).toNat < S512.size a := fun v128 k0_hw8 => k0_hw8.2.2.2.1
theorem k0_idx400_inb : ∀ (v128 : IVec S16 32) (k0_hw8 : k0_chk8 v128), ∀ a x, ((![v128] : Fin 1 → IVec S16 32) a x).toNat < S512.size a := fun v128 k0_hw8 => k0_hw8.2.2.2.2.1
theorem k0_idx404_inb : ∀ (v128 : IVec S16 32) (k0_hw8 : k0_chk8 v128), ∀ a x, ((![v128] : Fin 1 → IVec S16 32) a x).toNat < S512.size a := fun v128 k0_hw8 => k0_hw8.2.2.2.2.2.1
theorem k0_idx408_inb : ∀ (v128 : IVec S16 32) (k0_hw8 : k0_chk8 v128), ∀ a x, ((![v128] : Fin 1 → IVec S16 32) a x).toNat < S512.size a := fun v128 k0_hw8 => k0_hw8.2.2.2.2.2.2.1
theorem k0_idx412_inb : ∀ (v128 : IVec S16 32) (k0_hw8 : k0_chk8 v128), ∀ a x, ((![v128] : Fin 1 → IVec S16 32) a x).toNat < S512.size a := fun v128 k0_hw8 => k0_hw8.2.2.2.2.2.2.2.1
theorem k0_idx416_inb : ∀ (v128 : IVec S16 32) (k0_hw8 : k0_chk8 v128), ∀ a x, ((![v128] : Fin 1 → IVec S16 32) a x).toNat < S512.size a := fun v128 k0_hw8 => k0_hw8.2.2.2.2.2.2.2.2.1
theorem k0_idx420_inb : ∀ (v128 : IVec S16 32) (k0_hw8 : k0_chk8 v128), ∀ a x, ((![v128] : Fin 1 → IVec S16 32) a x).toNat < S512.size a := fun v128 k0_hw8 => k0_hw8.2.2.2.2.2.2.2.2.2.1
theorem k0_idx424_inb : ∀ (v128 : IVec S16 32) (k0_hw8 : k0_chk8 v128), ∀ a x, ((![v128] : Fin 1 → IVec S16 32) a x).toNat < S512.size a := fun v128 k0_hw8 => k0_hw8.2.2.2.2.2.2.2.2.2.2.1
theorem k0_idx428_inb : ∀ (v128 : IVec S16 32) (k0_hw8 : k0_chk8 v128), ∀ a x, ((![v128] : Fin 1 → IVec S16 32) a x).toNat < S512.size a := fun v128 k0_hw8 => k0_hw8.2.2.2.2.2.2.2.2.2.2.2.1
theorem k0_idx432_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.1
theorem k0_idx436_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.1
theorem k0_idx440_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.1
theorem k0_idx444_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.1
theorem k0_idx448_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.1
theorem k0_idx452_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.1
theorem k0_idx456_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.1
theorem k0_idx460_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.1
theorem k0_idx464_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.1
theorem k0_idx468_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.1
theorem k0_idx472_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.1
theorem k0_idx476_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.1
theorem k0_idx480_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.1
theorem k0_idx484_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.1
theorem k0_idx488_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.1
theorem k0_idx492_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.1
theorem k0_idx496_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.2.1
theorem k0_idx500_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.2.2.1
theorem k0_idx504_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.2.2.2.1
theorem k0_idx508_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.2.2.2.2.1
theorem k0_idx512_inb : ∀ (v128 : IVec S16 32) (k0_hw8 : k0_chk8 v128), ∀ a x, ((![v128] : Fin 1 → IVec S16 32) a x).toNat < S512.size a := fun v128 k0_hw8 => k0_hw8.2.2.2.2.2.2.2.2.2.2.2.2.2.2.2.2.2.2.2.2.2.2.2.2.2.2.2.2.2.2.2.2

def k0_chk9_0 (v161 : IVec S16 32) : Prop :=
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a)
def k0_chk9_1 (v161 : IVec S16 32) : Prop :=
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a) ∧
  (∀ a x, ((![v161] : Fin 1 → IVec S16 32) a x).toNat < S512.size a)
def k0_chk9 (v161 : IVec S16 32) : Prop :=
  k0_chk9_0 v161 ∧
  k0_chk9_1 v161
theorem k0_idx261_inb : ∀ (v161 : IVec S16 32) (k0_hw9 : k0_chk9 v161), ∀ a x, ((![v161] : Fin 1 → IVec S16 32) a x).toNat < S512.size a := fun v161 k0_hw9 => k0_hw9.1.1
theorem k0_idx265_inb : ∀ (v161 : IVec S16 32) (k0_hw9 : k0_chk9 v161), ∀ a x, ((![v161] : Fin 1 → IVec S16 32) a x).toNat < S512.size a := fun v161 k0_hw9 => k0_hw9.1.2.1
theorem k0_idx269_inb : ∀ (v161 : IVec S16 32) (k0_hw9 : k0_chk9 v161), ∀ a x, ((![v161] : Fin 1 → IVec S16 32) a x).toNat < S512.size a := fun v161 k0_hw9 => k0_hw9.1.2.2.1
theorem k0_idx273_inb : ∀ (v161 : IVec S16 32) (k0_hw9 : k0_chk9 v161), ∀ a x, ((![v161] : Fin 1 → IVec S16 32) a x).toNat < S512.size a := fun v161 k0_hw9 => k0_hw9.1.2.2.2.1
theorem k0_idx277_inb : ∀ (v161 : IVec S16 32) (k0_hw9 : k0_chk9 v161), ∀ a x, ((![v161] : Fin 1 → IVec S16 32) a x).toNat < S512.size a := fun v161 k0_hw9 => k0_hw9.1.2.2.2.2.1
theorem k0_idx281_inb : ∀ (v161 : IVec S16 32) (k0_hw9 : k0_chk9 v161), ∀ a x, ((![v161] : Fin 1 → IVec S16 32) a x).toNat < S512.size a := fun v161 k0_hw9 => k0_hw9.1.2.2.2.2.2.1
theorem k0_idx285_inb : ∀ (v161 : IVec S16 32) (k0_hw9 : k0_chk9 v161), ∀ a x, ((![v161] : Fin 1 → IVec S16 32) a x).toNat < S512.size a := fun v161 k0_hw9 => k0_hw9.1.2.2.2.2.2.2.1
theorem k0_idx289_inb : ∀ (v161 : IVec S16 32) (k0_hw9 : k0_chk9 v161), ∀ a x, ((![v161] : Fin 1 → IVec S16 32) a x).toNat < S512.size a := fun v161 k0_hw9 => k0_hw9.1.2.2.2.2.2.2.2.1
theorem k0_idx293_inb : ∀ (v161 : IVec S16 32) (k0_hw9 : k0_chk9 v161), ∀ a x, ((![v161] : Fin 1 → IVec S16 32) a x).toNat < S512.size a := fun v161 k0_hw9 => k0_hw9.1.2.2.2.2.2.2.2.2.1
theorem k0_idx297_inb : ∀ (v161 : IVec S16 32) (k0_hw9 : k0_chk9 v161), ∀ a x, ((![v161] : Fin 1 → IVec S16 32) a x).toNat < S512.size a := fun v161 k0_hw9 => k0_hw9.1.2.2.2.2.2.2.2.2.2.1
theorem k0_idx301_inb : ∀ (v161 : IVec S16 32) (k0_hw9 : k0_chk9 v161), ∀ a x, ((![v161] : Fin 1 → IVec S16 32) a x).toNat < S512.size a := fun v161 k0_hw9 => k0_hw9.1.2.2.2.2.2.2.2.2.2.2.1
theorem k0_idx305_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.1
theorem k0_idx309_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.1
theorem k0_idx313_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.1
theorem k0_idx317_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.1
theorem k0_idx321_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.1
theorem k0_idx325_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.1
theorem k0_idx329_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.1
theorem k0_idx333_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.1
theorem k0_idx337_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.1
theorem k0_idx341_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.1
theorem k0_idx345_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.1
theorem k0_idx349_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.1
theorem k0_idx353_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.1
theorem k0_idx357_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.1
theorem k0_idx361_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.1
theorem k0_idx365_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.1
theorem k0_idx369_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.2.1
theorem k0_idx373_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.2.2.1
theorem k0_idx377_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.2.2.2.1
theorem k0_idx381_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.2.2.2.2.1
theorem k0_idx385_inb : ∀ (v161 : IVec S16 32) (k0_hw9 : k0_chk9 v161), ∀ a x, ((![v161] : Fin 1 → IVec S16 32) a x).toNat < S512.size a := fun v161 k0_hw9 => k0_hw9.1.2.2.2.2.2.2.2.2.2.2.2.2.2.2.2.2.2.2.2.2.2.2.2.2.2.2.2.2.2.2.2
theorem k0_idx389_inb : ∀ (v161 : IVec S16 32) (k0_hw9 : k0_chk9 v161), ∀ a x, ((![v161] : Fin 1 → IVec S16 32) a x).toNat < S512.size a := fun v161 k0_hw9 => k0_hw9.2.1
theorem k0_idx393_inb : ∀ (v161 : IVec S16 32) (k0_hw9 : k0_chk9 v161), ∀ a x, ((![v161] : Fin 1 → IVec S16 32) a x).toNat < S512.size a := fun v161 k0_hw9 => k0_hw9.2.2.1
theorem k0_idx397_inb : ∀ (v161 : IVec S16 32) (k0_hw9 : k0_chk9 v161), ∀ a x, ((![v161] : Fin 1 → IVec S16 32) a x).toNat < S512.size a := fun v161 k0_hw9 => k0_hw9.2.2.2.1
theorem k0_idx401_inb : ∀ (v161 : IVec S16 32) (k0_hw9 : k0_chk9 v161), ∀ a x, ((![v161] : Fin 1 → IVec S16 32) a x).toNat < S512.size a := fun v161 k0_hw9 => k0_hw9.2.2.2.2.1
theorem k0_idx405_inb : ∀ (v161 : IVec S16 32) (k0_hw9 : k0_chk9 v161), ∀ a x, ((![v161] : Fin 1 → IVec S16 32) a x).toNat < S512.size a := fun v161 k0_hw9 => k0_hw9.2.2.2.2.2.1
theorem k0_idx409_inb : ∀ (v161 : IVec S16 32) (k0_hw9 : k0_chk9 v161), ∀ a x, ((![v161] : Fin 1 → IVec S16 32) a x).toNat < S512.size a := fun v161 k0_hw9 => k0_hw9.2.2.2.2.2.2.1
theorem k0_idx413_inb : ∀ (v161 : IVec S16 32) (k0_hw9 : k0_chk9 v161), ∀ a x, ((![v161] : Fin 1 → IVec S16 32) a x).toNat < S512.size a := fun v161 k0_hw9 => k0_hw9.2.2.2.2.2.2.2.1
theorem k0_idx417_inb : ∀ (v161 : IVec S16 32) (k0_hw9 : k0_chk9 v161), ∀ a x, ((![v161] : Fin 1 → IVec S16 32) a x).toNat < S512.size a := fun v161 k0_hw9 => k0_hw9.2.2.2.2.2.2.2.2.1
theorem k0_idx421_inb : ∀ (v161 : IVec S16 32) (k0_hw9 : k0_chk9 v161), ∀ a x, ((![v161] : Fin 1 → IVec S16 32) a x).toNat < S512.size a := fun v161 k0_hw9 => k0_hw9.2.2.2.2.2.2.2.2.2.1
theorem k0_idx425_inb : ∀ (v161 : IVec S16 32) (k0_hw9 : k0_chk9 v161), ∀ a x, ((![v161] : Fin 1 → IVec S16 32) a x).toNat < S512.size a := fun v161 k0_hw9 => k0_hw9.2.2.2.2.2.2.2.2.2.2.1
theorem k0_idx429_inb : ∀ (v161 : IVec S16 32) (k0_hw9 : k0_chk9 v161), ∀ a x, ((![v161] : Fin 1 → IVec S16 32) a x).toNat < S512.size a := fun v161 k0_hw9 => k0_hw9.2.2.2.2.2.2.2.2.2.2.2.1
theorem k0_idx433_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.1
theorem k0_idx437_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.1
theorem k0_idx441_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.1
theorem k0_idx445_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.1
theorem k0_idx449_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.1
theorem k0_idx453_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.1
theorem k0_idx457_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.1
theorem k0_idx461_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.1
theorem k0_idx465_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.1
theorem k0_idx469_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.1
theorem k0_idx473_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.1
theorem k0_idx477_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.1
theorem k0_idx481_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.1
theorem k0_idx485_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.1
theorem k0_idx489_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.1
theorem k0_idx493_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.1
theorem k0_idx497_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.2.1
theorem k0_idx501_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.2.2.1
theorem k0_idx505_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.2.2.2.1
theorem k0_idx509_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.2.2.2.2.1
theorem k0_idx513_inb : ∀ (v161 : IVec S16 32) (k0_hw9 : k0_chk9 v161), ∀ a x, ((![v161] : Fin 1 → IVec S16 32) a x).toNat < S512.size a := fun v161 k0_hw9 => k0_hw9.2.2.2.2.2.2.2.2.2.2.2.2.2.2.2.2.2.2.2.2.2.2.2.2.2.2.2.2.2.2.2.2

def k0_chk10_0 (v194 : IVec S16 32) : Prop :=
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a)
def k0_chk10_1 (v194 : IVec S16 32) : Prop :=
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a) ∧
  (∀ a x, ((![v194] : Fin 1 → IVec S16 32) a x).toNat < S512.size a)
def k0_chk10 (v194 : IVec S16 32) : Prop :=
  k0_chk10_0 v194 ∧
  k0_chk10_1 v194
theorem k0_idx262_inb : ∀ (v194 : IVec S16 32) (k0_hw10 : k0_chk10 v194), ∀ a x, ((![v194] : Fin 1 → IVec S16 32) a x).toNat < S512.size a := fun v194 k0_hw10 => k0_hw10.1.1
theorem k0_idx266_inb : ∀ (v194 : IVec S16 32) (k0_hw10 : k0_chk10 v194), ∀ a x, ((![v194] : Fin 1 → IVec S16 32) a x).toNat < S512.size a := fun v194 k0_hw10 => k0_hw10.1.2.1
theorem k0_idx270_inb : ∀ (v194 : IVec S16 32) (k0_hw10 : k0_chk10 v194), ∀ a x, ((![v194] : Fin 1 → IVec S16 32) a x).toNat < S512.size a := fun v194 k0_hw10 => k0_hw10.1.2.2.1
theorem k0_idx274_inb : ∀ (v194 : IVec S16 32) (k0_hw10 : k0_chk10 v194), ∀ a x, ((![v194] : Fin 1 → IVec S16 32) a x).toNat < S512.size a := fun v194 k0_hw10 => k0_hw10.1.2.2.2.1
theorem k0_idx278_inb : ∀ (v194 : IVec S16 32) (k0_hw10 : k0_chk10 v194), ∀ a x, ((![v194] : Fin 1 → IVec S16 32) a x).toNat < S512.size a := fun v194 k0_hw10 => k0_hw10.1.2.2.2.2.1
theorem k0_idx282_inb : ∀ (v194 : IVec S16 32) (k0_hw10 : k0_chk10 v194), ∀ a x, ((![v194] : Fin 1 → IVec S16 32) a x).toNat < S512.size a := fun v194 k0_hw10 => k0_hw10.1.2.2.2.2.2.1
theorem k0_idx286_inb : ∀ (v194 : IVec S16 32) (k0_hw10 : k0_chk10 v194), ∀ a x, ((![v194] : Fin 1 → IVec S16 32) a x).toNat < S512.size a := fun v194 k0_hw10 => k0_hw10.1.2.2.2.2.2.2.1
theorem k0_idx290_inb : ∀ (v194 : IVec S16 32) (k0_hw10 : k0_chk10 v194), ∀ a x, ((![v194] : Fin 1 → IVec S16 32) a x).toNat < S512.size a := fun v194 k0_hw10 => k0_hw10.1.2.2.2.2.2.2.2.1
theorem k0_idx294_inb : ∀ (v194 : IVec S16 32) (k0_hw10 : k0_chk10 v194), ∀ a x, ((![v194] : Fin 1 → IVec S16 32) a x).toNat < S512.size a := fun v194 k0_hw10 => k0_hw10.1.2.2.2.2.2.2.2.2.1
theorem k0_idx298_inb : ∀ (v194 : IVec S16 32) (k0_hw10 : k0_chk10 v194), ∀ a x, ((![v194] : Fin 1 → IVec S16 32) a x).toNat < S512.size a := fun v194 k0_hw10 => k0_hw10.1.2.2.2.2.2.2.2.2.2.1
theorem k0_idx302_inb : ∀ (v194 : IVec S16 32) (k0_hw10 : k0_chk10 v194), ∀ a x, ((![v194] : Fin 1 → IVec S16 32) a x).toNat < S512.size a := fun v194 k0_hw10 => k0_hw10.1.2.2.2.2.2.2.2.2.2.2.1
theorem k0_idx306_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.1
theorem k0_idx310_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.1
theorem k0_idx314_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.1
theorem k0_idx318_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.1
theorem k0_idx322_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.1
theorem k0_idx326_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.1
theorem k0_idx330_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.1
theorem k0_idx334_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.1
theorem k0_idx338_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.1
theorem k0_idx342_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.1
theorem k0_idx346_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.1
theorem k0_idx350_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.1
theorem k0_idx354_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.1
theorem k0_idx358_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.1
theorem k0_idx362_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.1
theorem k0_idx366_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.1
theorem k0_idx370_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.2.1
theorem k0_idx374_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.2.2.1
theorem k0_idx378_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.2.2.2.1
theorem k0_idx382_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.2.2.2.2.1
theorem k0_idx386_inb : ∀ (v194 : IVec S16 32) (k0_hw10 : k0_chk10 v194), ∀ a x, ((![v194] : Fin 1 → IVec S16 32) a x).toNat < S512.size a := fun v194 k0_hw10 => k0_hw10.1.2.2.2.2.2.2.2.2.2.2.2.2.2.2.2.2.2.2.2.2.2.2.2.2.2.2.2.2.2.2.2
theorem k0_idx390_inb : ∀ (v194 : IVec S16 32) (k0_hw10 : k0_chk10 v194), ∀ a x, ((![v194] : Fin 1 → IVec S16 32) a x).toNat < S512.size a := fun v194 k0_hw10 => k0_hw10.2.1
theorem k0_idx394_inb : ∀ (v194 : IVec S16 32) (k0_hw10 : k0_chk10 v194), ∀ a x, ((![v194] : Fin 1 → IVec S16 32) a x).toNat < S512.size a := fun v194 k0_hw10 => k0_hw10.2.2.1
theorem k0_idx398_inb : ∀ (v194 : IVec S16 32) (k0_hw10 : k0_chk10 v194), ∀ a x, ((![v194] : Fin 1 → IVec S16 32) a x).toNat < S512.size a := fun v194 k0_hw10 => k0_hw10.2.2.2.1
theorem k0_idx402_inb : ∀ (v194 : IVec S16 32) (k0_hw10 : k0_chk10 v194), ∀ a x, ((![v194] : Fin 1 → IVec S16 32) a x).toNat < S512.size a := fun v194 k0_hw10 => k0_hw10.2.2.2.2.1
theorem k0_idx406_inb : ∀ (v194 : IVec S16 32) (k0_hw10 : k0_chk10 v194), ∀ a x, ((![v194] : Fin 1 → IVec S16 32) a x).toNat < S512.size a := fun v194 k0_hw10 => k0_hw10.2.2.2.2.2.1
theorem k0_idx410_inb : ∀ (v194 : IVec S16 32) (k0_hw10 : k0_chk10 v194), ∀ a x, ((![v194] : Fin 1 → IVec S16 32) a x).toNat < S512.size a := fun v194 k0_hw10 => k0_hw10.2.2.2.2.2.2.1
theorem k0_idx414_inb : ∀ (v194 : IVec S16 32) (k0_hw10 : k0_chk10 v194), ∀ a x, ((![v194] : Fin 1 → IVec S16 32) a x).toNat < S512.size a := fun v194 k0_hw10 => k0_hw10.2.2.2.2.2.2.2.1
theorem k0_idx418_inb : ∀ (v194 : IVec S16 32) (k0_hw10 : k0_chk10 v194), ∀ a x, ((![v194] : Fin 1 → IVec S16 32) a x).toNat < S512.size a := fun v194 k0_hw10 => k0_hw10.2.2.2.2.2.2.2.2.1
theorem k0_idx422_inb : ∀ (v194 : IVec S16 32) (k0_hw10 : k0_chk10 v194), ∀ a x, ((![v194] : Fin 1 → IVec S16 32) a x).toNat < S512.size a := fun v194 k0_hw10 => k0_hw10.2.2.2.2.2.2.2.2.2.1
theorem k0_idx426_inb : ∀ (v194 : IVec S16 32) (k0_hw10 : k0_chk10 v194), ∀ a x, ((![v194] : Fin 1 → IVec S16 32) a x).toNat < S512.size a := fun v194 k0_hw10 => k0_hw10.2.2.2.2.2.2.2.2.2.2.1
theorem k0_idx430_inb : ∀ (v194 : IVec S16 32) (k0_hw10 : k0_chk10 v194), ∀ a x, ((![v194] : Fin 1 → IVec S16 32) a x).toNat < S512.size a := fun v194 k0_hw10 => k0_hw10.2.2.2.2.2.2.2.2.2.2.2.1
theorem k0_idx434_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.1
theorem k0_idx438_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.1
theorem k0_idx442_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.1
theorem k0_idx446_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.1
theorem k0_idx450_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.1
theorem k0_idx454_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.1
theorem k0_idx458_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.1
theorem k0_idx462_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.1
theorem k0_idx466_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.1
theorem k0_idx470_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.1
theorem k0_idx474_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.1
theorem k0_idx478_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.1
theorem k0_idx482_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.1
theorem k0_idx486_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.1
theorem k0_idx490_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.1
theorem k0_idx494_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.1
theorem k0_idx498_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.2.1
theorem k0_idx502_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.2.2.1
theorem k0_idx506_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.2.2.2.1
theorem k0_idx510_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.2.2.2.2.1
theorem k0_idx514_inb : ∀ (v194 : IVec S16 32) (k0_hw10 : k0_chk10 v194), ∀ a x, ((![v194] : Fin 1 → IVec S16 32) a x).toNat < S512.size a := fun v194 k0_hw10 => k0_hw10.2.2.2.2.2.2.2.2.2.2.2.2.2.2.2.2.2.2.2.2.2.2.2.2.2.2.2.2.2.2.2.2
def k0_off14 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_6 : BitVec 32 := 0#32
  let c1_i32_7 : BitVec 32 := 1#32
  let arg12 : BitVec 32 := Scf.iv c0_i32_6 c1_i32_7 k0_t2
  let c2_i32_13 : BitVec 32 := 2#32
  let v25 : BitVec 32 := Scalar.muli arg12 c2_i32_13
  let c1_i32_14 : BitVec 32 := 1#32
  let v26 : BitVec 32 := Scalar.addi v25 c1_i32_14
  let v42 : BitVec 32 := Scalar.addi v2 v26
  let c0_i32_31 : BitVec 32 := 0#32
  ![v42.toNat, 0]
def k0_off15 (i : grid0.Coords) (c14_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v15 : BitVec 32 := Scalar.addi v2 c14_i32
  let c0_i32_9 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x512 : Shape := ⟨2, ![512, 512]⟩
abbrev S21x64 : Shape := ⟨2, ![21, 64]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S512x512x64 : Shape := ⟨3, ![512, 512, 64]⟩
abbrev S1x1x64 : Shape := ⟨3, ![1, 1, 64]⟩

abbrev nBuf : Space → Nat
  | .hbm => 32
  | .vmem => 0
  | .smem => 0
  | _ => 0

abbrev bufTy : (tb : Table) → Fin (tcTables nBuf tb) → BufTy
  | .hbm, ⟨0, _⟩ => ⟨S512x512, .i32⟩
  | .hbm, ⟨1, _⟩ => ⟨S21x64, .f32⟩
  | .hbm, ⟨2, _⟩ => ⟨S_, .i32⟩
  | .hbm, ⟨3, _⟩ => ⟨S512x512, .i32⟩
  | .hbm, ⟨4, _⟩ => ⟨S512x512, .i1⟩
  | .hbm, ⟨5, _⟩ => ⟨S_, .i32⟩
  | .hbm, ⟨6, _⟩ => ⟨S512x512, .i32⟩
  | .hbm, ⟨7, _⟩ => ⟨S512x512, .i32⟩
  | .hbm, ⟨8, _⟩ => ⟨S512x512, .i32⟩
  | .hbm, ⟨9, _⟩ => ⟨S512x512x1, .i32⟩
  | .hbm, ⟨10, _⟩ => ⟨S1, .i32⟩
  | .hbm, ⟨11, _⟩ => ⟨S_, .i32⟩
  | .hbm, ⟨12, _⟩ => ⟨S512x512x1, .i32⟩
  | .hbm, ⟨13, _⟩ => ⟨S512x512x1, .i1⟩
  | .hbm, ⟨14, _⟩ => ⟨S1x1x1, .i32⟩
  | .hbm, ⟨15, _⟩ => ⟨S512x512x1, .i32⟩
  | .hbm, ⟨16, _⟩ => ⟨S512x512x1, .i1⟩
  | .hbm, ⟨17, _⟩ => ⟨S512x512x1, .i1⟩
  | .hbm, ⟨18, _⟩ => ⟨S_, .i1⟩
  | .hbm, ⟨19, _⟩ => ⟨S512x512, .i1⟩
  | .hbm, ⟨20, _⟩ => ⟨S512x512x64, .f32⟩
  | .hbm, ⟨21, _⟩ => ⟨S512x512x64, .i1⟩
  | .hbm, ⟨22, _⟩ => ⟨S_, .f32⟩
  | .hbm, ⟨23, _⟩ => ⟨S512x512x64, .f32⟩
  | .hbm, ⟨24, _⟩ => ⟨S512x512x64, .f32⟩
  | .hbm, ⟨25, _⟩ => ⟨S512x512x1, .i32⟩
  | .hbm, ⟨26, _⟩ => ⟨S1x1x64, .i32⟩
  | .hbm, ⟨27, _⟩ => ⟨S512x512x64, .i32⟩
  | .hbm, ⟨28, _⟩ => ⟨S512x512x64, .i32⟩
  | .hbm, ⟨29, _⟩ => ⟨S512x512x64, .i1⟩
  | .hbm, ⟨30, _⟩ => ⟨S512x512x64, .f32⟩
  | .hbm, ⟨31, _⟩ => ⟨S512x512x64, .f32⟩
  | _, _ => ⟨S512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v1 : Ref sig .tc := ⟨.hbm, 30, rfl⟩
abbrev main_v2 : Ref sig .tc := ⟨.hbm, 31, rfl⟩

abbrev nD : Nat := 1
abbrev τ : Topo := Topo.v7x

variable {F : FTy → Type} [FloatOps F]
-- ==== Proof.Body.lean ====
/-
  The bodies of the kernel's four loops, in a form a proof can recurse over.

  The printed loops are unrolled: a body stores sixty-four table columns one after another, or gathers and stores
  sixty-four groups of four. Each body is here a recursion over the column `d`; that the printed body IS the recursion
  is by `rfl`.
-/
module

public import proofs.«01_k».proof.Defs
public import proofs.«01_k».proof.Proof.Gen.KernelIdeal
public import Idealize.ShloMosaic.Lib.SparseCore.Ops

@[expose] public section

noncomputable section

namespace Cert.Proof.Fill

open Cert.KernelIdeal Cert.KernelIdeal.Gen
open Idealize.ShloMosaic
open Idealize.ShloMosaic.SparseCore (S V T)
open Idealize.SL.Sem

variable {F : FTy → Type} [FloatOps F]

/-- A program of the vector subcore `p`. -/
abbrev Pg (F : FTy → Type) (p : Proc τ) (α : Type) := Prog (TpuEff nD τ sig (Elt F) Λ₀ p) α

/-- Sixteen words from `o` fit in a buffer of 32768. -/
abbrev Fits (o : Fin 1 → Nat) : Prop := ∀ a, o a + S16.size a ≤ S32768.size a

section
variable {c : Fin τ.nSC} {s : Fin τ.nSub} {α : Type}

/-- Store `w` at words `o … o+15` of a buffer; the printed store reads them first. -/
def put (b : Memref sig .scVector .vmem S32768 .f32) (o : Fin 1 → Nat) (ho : Fits o) (w : Vec F S16 .f32)
    (k : Pg F (.scVector c s) α) : Pg F (.scVector c s) α :=
  .op (.load b (Rect.unit (s := S32768) o S16.size ho).toLoadRect (View.loadsAt_vmem h_S16)) fun _ =>
  .op (.store b (Rect.unit (s := S32768) o S16.size ho) w Finset.univ (View.stores_vmem_bits_univ h_S16 rfl) (.inl rfl)) fun _ => k

/-- Column `d` of the transposed table lies within it. -/
theorem colInb {d : Nat} (hd : d < 64) : ∀ a, (![512 * d] : Fin 1 → Nat) a + S512.size a ≤ S32768.size a := by
  intro a
  fin_cases a
  show 512 * d + 512 ≤ 32768
  omega

/-- Gather sixteen words of column `d` of the transposed table at the offsets `v`. -/
def gath (t : Memref sig .scVector .vmem S32768 .f32) (d : Nat) (hd : d < 64) (v : IVec S16 32)
    (hv : ∀ a x, ((![v] : Fin 1 → IVec S16 32) a x).toNat < S512.size a) (k : Vec F S16 .f32 → Pg F (.scVector c s) α) :
    Pg F (.scVector c s) α :=
  .op (.load (t.slice (Rect.unit (s := S32768) ![512 * d] S512.size (colInb hd)) (fun _ => rfl)) (.whole S512)
    (View.loadsAt_whole (View.loads_vmem h_S512))) fun f => k (loadIdx f ![v] hv)

/-- The offset of column `d` in a row of the output: `d / 8` tiles of 4096 words, and `d % 8` lines of 128. -/
def colOff (d : Nat) : Nat := (d / 8) * 4096 + (d % 8) * 128

/-- The offsets a fill stores at: group `u` of four, column `d`. -/
abbrev Offs := BitVec 32 → BitVec 32 → Fin 1 → Nat

/-- Every offset of a fill is inside the buffer. -/
abbrev OffsOK (off : Offs) : Prop := ∀ (u : Fin 4) (d : Fin 64), Fits (off (BitVec.ofNat 32 u.val) (BitVec.ofNat 32 (colOff d.val)))

/-- The last `n` of the sixty-four columns of a fill: gather four groups of column `d`, store them. -/
def cols (t b : Memref sig .scVector .vmem S32768 .f32) (off : Offs) (ho : OffsOK off) (v : Fin 4 → IVec S16 32)
    (hv : ∀ u, ∀ a x, ((![v u] : Fin 1 → IVec S16 32) a x).toNat < S512.size a) :
    (n : Nat) → n ≤ 64 → Pg F (.scVector c s) α → Pg F (.scVector c s) α
  | 0, _, k => k
  | n + 1, h, k =>
    gath t (63 - n) (by omega) (v 0) (hv 0) fun g₀ =>
    gath t (63 - n) (by omega) (v 1) (hv 1) fun g₁ =>
    gath t (63 - n) (by omega) (v 2) (hv 2) fun g₂ =>
    gath t (63 - n) (by omega) (v 3) (hv 3) fun g₃ =>
    put b (off 0#32 (BitVec.ofNat 32 (colOff (63 - n)))) (ho 0 ⟨63 - n, by omega⟩) g₀ <|
    put b (off 1#32 (BitVec.ofNat 32 (colOff (63 - n)))) (ho 1 ⟨63 - n, by omega⟩) g₁ <|
    put b (off 2#32 (BitVec.ofNat 32 (colOff (63 - n)))) (ho 2 ⟨63 - n, by omega⟩) g₂ <|
    put b (off 3#32 (BitVec.ofNat 32 (colOff (63 - n)))) (ho 3 ⟨63 - n, by omega⟩) g₃ <|
    cols t b off ho v hv n (by omega) k

/-- What sixteen token words become: sixteen times the token, plus the lane. -/
def lanes (v10 : IVec S16 32) (ld : Vec F S1x1x1x16 .i32) : IVec S16 32 :=
  addi (muli (shapeCast S16 ld shapeCasts_S1x1x1x16_S16) (broadcast S16 16#32)) v10

/-- Load sixteen tokens, form the gather's offsets, check them. -/
def toks (x : Memref sig .scVector .vmem S2x4x8x128 .i32) (o : Fin 4 → Nat) (ho : ∀ a, o a + S1x1x1x16.size a ≤ S2x4x8x128.size a)
    (v10 : IVec S16 32) (C : IVec S16 32 → Prop) (dec : ∀ v, Decidable (C v))
    (k : (v : IVec S16 32) → C v → Pg F (.scVector c s) α) : Pg F (.scVector c s) α :=
  .op (.load x (Rect.unit (s := S2x4x8x128) o S1x1x1x16.size ho).toLoadRect (View.loadsAt_vmem h_S1x1x1x16)) fun ld =>
  .op (.assume (C (lanes (F := F) v10 ld)) (dec _)) fun h => k (lanes (F := F) v10 ld) h.down

/-- Splat lane `l` of sixteen words. -/
def splat (v : Vec F S16 .f32) (l : Nat) (hl : S16.Slices ![l] S1) : FVec F S16 .f32 :=
  broadcast S16 (extractAt ![0] (extractStridedSlice S1 ![l] v hl) inpos_S1_p0)

/-- Each of the sixteen lanes is a slice of the vector. -/
theorem laneSlices {l : Nat} (h : l < 16) : S16.Slices ![l] S1 := by
  interval_cases l <;> decide

/-- The last `n` of sixteen lanes of a quarter of a table row: splat each, store it in the transposed table. -/
def spread (t : Memref sig .scVector .vmem S32768 .f32) (off : BitVec 32 → Fin 1 → Nat)
    (ho : ∀ d : Fin 64, Fits (off (BitVec.ofNat 32 (512 * d.val)))) (q : Fin 4) (v : Vec F S16 .f32) :
    (n : Nat) → n ≤ 16 → Pg F (.scVector c s) α → Pg F (.scVector c s) α
  | 0, _, k => k
  | n + 1, h, k =>
    put t (off (BitVec.ofNat 32 (512 * (16 * q.val + (15 - n))))) (ho ⟨16 * q.val + (15 - n), by omega⟩)
      (splat v (15 - n) (laneSlices (by omega))) <|
    spread t off ho q v n (by omega) k

/-- Load sixteen words of a table row. -/
def rowq (a : Memref sig .scVector .vmem S32x64 .f32) (o : Fin 2 → Nat) (ho : ∀ a, o a + S1x16.size a ≤ S32x64.size a)
    (k : Vec F S16 .f32 → Pg F (.scVector c s) α) : Pg F (.scVector c s) α :=
  .op (.load a (Rect.unit (s := S32x64) o S1x16.size ho).toLoadRect (View.loadsAt_vmem h_S1x16)) fun ld =>
  k (shapeCast S16 ld shapeCasts_S1x16_S16)
/-- A chunk of a row: four groups of sixteen tokens, then all sixty-four columns of each. -/
def chunk (x : Memref sig .scVector .vmem S2x4x8x128 .i32) (t b : Memref sig .scVector .vmem S32768 .f32) (v10 : IVec S16 32)
    (o : BitVec 32 → Fin 4 → Nat) (ho : ∀ (r : Fin 4), ∀ a, o (BitVec.ofNat 32 r.val) a + S1x1x1x16.size a ≤ S2x4x8x128.size a)
    (C : Fin 4 → IVec S16 32 → Prop) (dec : ∀ u v, Decidable (C u v))
    (hC : ∀ u v, C u v → ∀ a x, ((![v] : Fin 1 → IVec S16 32) a x).toNat < S512.size a)
    (off : Offs) (hoff : OffsOK off) : Pg F (.scVector c s) (BitVec 32) :=
  toks x (o 0#32) (ho 0) v10 (C 0) (dec 0) fun v₀ h₀ =>
  toks x (o 1#32) (ho 1) v10 (C 1) (dec 1) fun v₁ h₁ =>
  toks x (o 2#32) (ho 2) v10 (C 2) (dec 2) fun v₂ h₂ =>
  toks x (o 3#32) (ho 3) v10 (C 3) (dec 3) fun v₃ h₃ =>
  cols t b off hoff (fun | 0 => v₀ | 1 => v₁ | 2 => v₂ | 3 => v₃)
    (fun | 0 => hC 0 v₀ h₀ | 1 => hC 1 v₁ h₁ | 2 => hC 2 v₂ h₂ | 3 => hC 3 v₃ h₃) 64 le_rfl (.ret 0#32)
end

section
variable (i : grid0.Coords) (arg2 : Memref sig .scVector .hbm S21x64 .f32) (harg2 : arg2.IsWhole) (arg3 : Memref sig .scVector .hbm S64x4x8x128 .i32) (harg3 : arg3.IsWhole) (arg4 : Memref sig .scVector .hbm S512x32768 .f32) (harg4 : arg4.IsWhole) (arg5 : Memref sig .scVector .vmem S2x4x8x128 .i32) (harg5 : arg5.IsWhole) (arg6 : Memref sig .scVector .vmem S32x64 .f32) (harg6 : arg6.IsWhole) (arg7 : Memref sig .scVector .vmem S32768 .f32) (harg7 : arg7.IsWhole) (arg8 : Memref sig .scVector .vmem S32768 .f32) (harg8 : arg8.IsWhole) (arg9 : Memref sig .scVector .vmem S32768 .f32) (harg9 : arg9.IsWhole) (arg10 arg11 r0 r1 : DmaSems sig S_)

/-- The transposition's body at table row `t`. -/
def tBody (t : Fin k0_t1_loop.trips) : Pg F (.scVector ((i 0).castLE hcore0) ((i 1).castLE hsub0)) (BitVec 32) :=
  rowq arg6 (k0_off2 t) (k0_off2_inb t) fun v0 => spread arg7 (k0_off3 t) (k0_off3_inb t) 0 v0 16 le_rfl (
  rowq arg6 (k0_off4 t) (k0_off4_inb t) fun v1 => spread arg7 (k0_off3 t) (k0_off3_inb t) 1 v1 16 le_rfl (
  rowq arg6 (k0_off5 t) (k0_off5_inb t) fun v2 => spread arg7 (k0_off3 t) (k0_off3_inb t) 2 v2 16 le_rfl (
  rowq arg6 (k0_off6 t) (k0_off6_inb t) fun v3 => spread arg7 (k0_off3 t) (k0_off3_inb t) 3 v3 16 le_rfl ( .ret 0#32))))

/-- The program's pass over a row of the table is the pass written out here. -/
theorem tBody_eq (t : Fin k0_t1_loop.trips) :
    (do
      let ⟨arg12, v476⟩ : Σ' (_ : BitVec 32), FVec F S16 .f32 ← k0_part11 i arg2 harg2 arg3 harg3 arg4 harg4 arg5 harg5 arg6 harg6 arg7 harg7 arg8 harg8 arg9 harg9 arg10 arg11 r0 r1 0#32 1#32 t
      let v480 : Vec F S16 .f32 ← Prog.lift (.load arg7 (Rect.unit (s := S32768) (k0_off3 t 32256#32) S16.size (k0_off3_inb t 63)).toLoadRect (View.loadsAt_vmem h_S16))
      Prog.lift (.store arg7 (Rect.unit (s := S32768) (k0_off3 t 32256#32) S16.size (k0_off3_inb t 63)) v476 Finset.univ (View.stores_vmem_bits_univ h_S16 rfl) (.inl rfl))
      pure 0#32)
      = tBody (F := F) i arg6 arg7 t := rfl

/-- The checks of the first buffer's fill, and of the second's. -/
def CA : Fin 4 → IVec S16 32 → Prop
  | 0 => k0_chk3 | 1 => k0_chk4 | 2 => k0_chk5 | 3 => k0_chk6
@[inherit_doc CA] def CB : Fin 4 → IVec S16 32 → Prop
  | 0 => k0_chk7 | 1 => k0_chk8 | 2 => k0_chk9 | 3 => k0_chk10

/-- The checks of the first buffer's fill can be decided. -/
def decA : ∀ u v, Decidable (CA u v)
  | 0, v => k0_chk3.dec v | 1, v => k0_chk4.dec v | 2, v => k0_chk5.dec v | 3, v => k0_chk6.dec v
/-- The checks of the second buffer's fill can be decided. -/
def decB : ∀ u v, Decidable (CB u v)
  | 0, v => k0_chk7.dec v | 1, v => k0_chk8.dec v | 2, v => k0_chk9.dec v | 3, v => k0_chk10.dec v

/-- Indices that pass the first fill's checks lie within a column of 512 words. -/
theorem CA_inb : ∀ u v, CA u v → ∀ a x, ((![v] : Fin 1 → IVec S16 32) a x).toNat < S512.size a
  | 0, v, h => k0_idx3_inb v h | 1, v, h => k0_idx4_inb v h | 2, v, h => k0_idx5_inb v h | 3, v, h => k0_idx6_inb v h
/-- Indices that pass the second fill's checks lie within a column of 512 words. -/
theorem CB_inb : ∀ u v, CB u v → ∀ a x, ((![v] : Fin 1 → IVec S16 32) a x).toNat < S512.size a
  | 0, v, h => k0_idx259_inb v h | 1, v, h => k0_idx260_inb v h | 2, v, h => k0_idx261_inb v h | 3, v, h => k0_idx262_inb v h

/-- Offsets inside the buffer, of the first buffer's fill and of the second's. -/
theorem offA (t : Fin k0_t3_loop.trips) : OffsOK (k0_off9 t) := fun u d => by
  have h := k0_off9_inb t ⟨4 * d.val + u.val, by omega⟩
  have e : k0_off9_at ⟨4 * d.val + u.val, by omega⟩ = (BitVec.ofNat 32 u.val, BitVec.ofNat 32 (colOff d.val)) := by
    clear h; revert u d; decide +kernel
  rw [e] at h
  exact h
/-- The offsets of the second buffer's fill are inside the buffer. -/
theorem offB (t : Fin k0_t4_loop.trips) : OffsOK (k0_off13 t) := fun u d => by
  have h := k0_off13_inb t ⟨4 * d.val + u.val, by omega⟩
  have e : k0_off13_at ⟨4 * d.val + u.val, by omega⟩ = (BitVec.ofNat 32 u.val, BitVec.ofNat 32 (colOff d.val)) := by
    clear h; revert u d; decide +kernel
  rw [e] at h
  exact h

/-- The lane numbers, the ones that are added, and the lanes of the second scatter. -/
def iot : IVec S16 32 := iota .scVector S16 32 [0] iota_S16_d0_w32_scVector
@[inherit_doc iot] def iot' : IVec S16 32 := addi iot (broadcast S16 16#32)
@[inherit_doc iot] def ones : FVec F S16 .f32 := broadcast S16 (Scalar.ofBits .f32 0x3F800000#32)
@[inherit_doc iot] def mask : IVec S16 1 := cmpi .slt iot' (broadcast S16 21#32)

/-- Row `o` of the output, as the copies out name it. -/
abbrev outRow (o : Fin 2 → Nat) (ho : ∀ a, o a + S1x32768.size a ≤ S512x32768.size a) : Memref sig .scVector .hbm S32768 .f32 :=
  (arg4.slice (Rect.unit (s := S512x32768) o S1x32768.size ho) (fun _ => rfl)).squeeze S32768 squeezes_S1x32768_S32768

/-- A fill of the first buffer, and of the second: eight chunks. -/
def rowA (t : Fin k0_t2_loop.trips) (t' : Fin k0_t3_loop.trips) : Pg F (.scVector ((i 0).castLE hcore0) ((i 1).castLE hsub0)) (BitVec 32) :=
  chunk arg5 arg7 arg8 iot (k0_off8 t t') (k0_off8_inb t t') CA decA CA_inb (k0_off9 t') (offA t')
@[inherit_doc rowA] def rowB (t : Fin k0_t2_loop.trips) (t' : Fin k0_t4_loop.trips) : Pg F (.scVector ((i 0).castLE hcore0) ((i 1).castLE hsub0)) (BitVec 32) :=
  chunk arg5 arg7 arg9 iot (k0_off12 t t') (k0_off12_inb t t') CB decB CB_inb (k0_off13 t') (offB t')

include harg8 harg9 in
/-- A pair of rows: for each buffer, wait for its last copy out (but at the first pair), fill it, start its copy out. -/
def pair (t : Fin k0_t2_loop.trips) : Pg F (.scVector ((i 0).castLE hcore0) ((i 1).castLE hsub0)) (BitVec 32) := do
  if h : k0_cond1 t = 1#1 then
    Prog.op (.waitDma2 arg10.sem arg8 (outRow arg4 (k0_off7 i t) (k0_off7_inb i t h)) harg8.wordExact ((View.wordExact_bits rfl).reshape _ _)) .ret
  else .ret ⟨⟩
  let _ ← Scf.Loop.for k0_t3_loop k0_t3_ok 0#32 fun t' _ => rowA i arg5 arg7 arg8 t t'
  Prog.lift (.enqueueDma arg8 (.here (outRow arg4 (k0_off10 i t) (k0_off10_inb i t))) (.dma arg10.sem) harg8.wordExact ((View.wordExact_bits rfl).reshape _ _) ⟨Or.inl rfl, trivial⟩)
  if h : k0_cond2 t = 1#1 then
    Prog.op (.waitDma2 arg11.sem arg9 (outRow arg4 (k0_off11 i t) (k0_off11_inb i t h)) harg9.wordExact ((View.wordExact_bits rfl).reshape _ _)) .ret
  else .ret ⟨⟩
  let _ ← Scf.Loop.for k0_t4_loop k0_t4_ok 0#32 fun t' _ => rowB i arg5 arg7 arg9 t t'
  Prog.lift (.enqueueDma arg9 (.here (outRow arg4 (k0_off14 i t) (k0_off14_inb i t))) (.dma arg11.sem) harg9.wordExact ((View.wordExact_bits rfl).reshape _ _) ⟨Or.inl rfl, trivial⟩)
  pure 0#32

include harg2 harg5 harg8 harg9 in
/-- The kernel. -/
def fill : Pg F (.scVector ((i 0).castLE hcore0) ((i 1).castLE hsub0)) PUnit :=
  .op (.enqueueDma (arg3.slice (Rect.unit (s := S64x4x8x128) (k0_off1 i) S2x4x8x128.size (k0_off1_inb i)) (fun _ => rfl)) (.here arg5) (.dma r0.sem) (View.wordExact_bits rfl) harg5.wordExact ⟨Or.inl rfl, trivial⟩) fun _ =>
  .op (.waitDma2 r0.sem (arg3.slice (Rect.unit (s := S64x4x8x128) (k0_off1 i) S2x4x8x128.size (k0_off1_inb i)) (fun _ => rfl)) arg5 (View.wordExact_bits rfl) harg5.wordExact) fun _ =>
  .op (.enqueueDma arg2 (.here (arg6.slice (Rect.unit (s := S32x64) ![0, 0] S21x64.size inb_S32x64_S21x64_0_0) (fun _ => rfl))) (.dma r1.sem) harg2.wordExact (View.wordExact_bits rfl) ⟨Or.inl rfl, trivial⟩) fun _ =>
  .op (.waitDma2 r1.sem arg2 (arg6.slice (Rect.unit (s := S32x64) ![0, 0] S21x64.size inb_S32x64_S21x64_0_0) (fun _ => rfl)) harg2.wordExact (View.wordExact_bits rfl)) fun _ =>
  .op (.assume (k0_chk1 iot) (k0_chk1.dec iot)) fun h₁ =>
  .op (.assume (k0_chk2 iot') (k0_chk2.dec iot')) fun h₂ =>
  SparseCore.vectorStoreIdx arg6 ![iot, iot] ones (fun _ => 1#1) true (k0_idx1_inb iot h₁.down) (View.stores_vmem_bits_univ h_S32x64 rfl) >>= fun _ =>
  SparseCore.vectorStoreIdx arg6 ![iot', iot'] ones mask true (k0_idx2_inb iot' h₂.down) (View.stores_vmem_bits_univ h_S32x64 rfl) >>= fun _ =>
  Scf.Loop.for k0_t1_loop k0_t1_ok 0#32 (fun t _ => tBody i arg6 arg7 t) >>= fun _ =>
  Scf.Loop.for k0_t2_loop k0_t2_ok 0#32 (fun t _ => pair i arg4 arg5 arg7 arg8 harg8 arg9 harg9 arg10 arg11 t) >>= fun _ =>
  .op (.waitDma2 arg10.sem arg8 (outRow arg4 (k0_off15 i 14#32) (k0_off15_inb i 0)) harg8.wordExact ((View.wordExact_bits rfl).reshape _ _)) fun _ =>
  .op (.waitDma2 arg11.sem arg9 (outRow arg4 (k0_off15 i 15#32) (k0_off15_inb i 1)) harg9.wordExact ((View.wordExact_bits rfl).reshape _ _)) fun _ =>
  .ret ⟨⟩

/-- The program's kernel is the text that the proof steps through. -/
theorem fill_eq : cc0_sc_fill (F := F) i arg2 harg2 arg3 harg3 arg4 harg4 arg5 harg5 arg6 harg6 arg7 harg7 arg8 harg8 arg9 harg9 arg10 arg11 r0 r1
    = fill i arg2 harg2 arg3 arg4 arg5 harg5 arg6 arg7 arg8 harg8 arg9 harg9 arg10 arg11 r0 r1 := rfl

end

end Cert.Proof.Fill
-- ==== Proof.Wp.lean ====
/-
  What the pieces of the loops' bodies do: a store of sixteen words, a gather of a column, the load of sixteen tokens,
  and the recursions over the columns.

  A buffer's contents are followed as a partial function: `On b D R` says the buffer is owned and that word `n` of it
  is `R n` for every `n` in `D`.
-/
module

public import proofs.«01_k».proof.Proof.Body
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The handshakes' ghost state. -/
abbrev UH : Type := URounds (GSem nD τ sig) ℕ
/-- The handshakes' ghost state and the counters'. -/
abbrev UU : Type := UH × Counters

local notation "𝕄" => MT nD τ sig (HIx 1) (Elt F) ℕ UU ℕ

/-- The handshakes' part of the ghost state. -/
abbrev EH : Emb UH (MT nD τ sig (HIx 1) (Elt F) ℕ UU ℕ) := embL
/-- No variants. -/
abbrev 𝒱₀ : Variants := Variants.none

section
variable {dv : Dev nD} {c : Fin τ.nSC} {s : Fin τ.nSub} {α : Type}

/-- The weakest precondition of a program of vector subcore `(c, s)`. -/
abbrev Wp (dv : Dev nD) {c : Fin τ.nSC} {s : Fin τ.nSub} {α : Type} (p : Pg F (.scVector c s) α) (Q : α → sProp 𝕄) : sProp 𝕄 :=
  wp frame (wpE (defs₀ (F := F)) 𝒱₀ (V dv c s) none) Set.univ p Q

/-- A buffer of 32768 words, owned, holding `R n` at every word `n` in `D`. -/
def On (dv : Dev nD) (c : Fin τ.nSC) (s : Fin τ.nSub) (b : Memref sig .scVector .vmem S32768 .f32) (D : ℕ → Prop) (R : ℕ → F .f32) : sProp 𝕄 :=
  iprop(∃ f : Buf (Elt F) (b.view.loc (V dv c s)), (b.view.loc (V dv c s) ↦[b.view.set]{fullShare} f)
    ∗ ⌜∀ y : S32768.Idx, D (y 0).val → b.view.read (Elt F) f y = R (y 0).val⌝)

/-- Fewer words may be known. -/
theorem On.mono {b : Memref sig .scVector .vmem S32768 .f32} {D D' : ℕ → Prop} {R : ℕ → F .f32} (h : ∀ n, n < 32768 → D' n → D n) :
    On dv c s b D R ⊢ On dv c s b D' R := by
  unfold On
  iintro ⟨%f, Hf, %hf⟩
  iexists f
  isplitl [Hf]
  · iexact Hf
  · ipureintro
    exact fun y hy => hf y (h _ (y 0).isLt hy)

/-- The values may be replaced where nothing is known of them. -/
theorem On.congr {b : Memref sig .scVector .vmem S32768 .f32} {D D' : ℕ → Prop} {R R' : ℕ → F .f32} (h : ∀ n, n < 32768 → D' n → D n ∧ R n = R' n) :
    On dv c s b D R ⊢ On dv c s b D' R' := by
  unfold On
  iintro ⟨%f, Hf, %hf⟩
  iexists f
  isplitl [Hf]
  · iexact Hf
  · ipureintro
    exact fun y hy => (hf y (h _ (y 0).isLt hy).1).trans (h _ (y 0).isLt hy).2

omit [FloatOps F] in
/-- An index of a buffer is its word's number. -/
theorem idx1_ext {x y : S32768.Idx} (h : (x 0).val = (y 0).val) : x = y := by
  funext a
  obtain rfl : a = 0 := Subsingleton.elim _ _
  exact Fin.ext h

/-- A store of sixteen words: those words become known. -/
theorem wp_put {b : Memref sig .scVector .vmem S32768 .f32} {o : Fin 1 → Nat} {ho : Fits o} {w : Vec F S16 .f32}
    {k : Pg F (.scVector c s) α} {Q : α → sProp 𝕄} {D : ℕ → Prop} {R : ℕ → F .f32}
    (hw : ∀ x : S16.Idx, w x = R (o 0 + (x 0).val)) :
    On dv c s b D R ⊢ iprop((On dv c s b (fun n => D n ∨ (o 0 ≤ n ∧ n < o 0 + 16)) R -∗ Wp dv k Q) -∗ Wp dv (put b o ho w k) Q) := by
  unfold On put
  iintro ⟨%f, Hf, %hf⟩ Hk
  iapply (wp_load_rect 𝒱₀ (V dv c s) none Set.univ (m := b) (r := Rect.unit (s := S32768) o S16.size ho) (View.set_slice_subset _ _)) $$ Hf
  iintro Hf
  iapply (wp_store 𝒱₀ (V dv c s) none Set.univ (m := b) (r := Rect.unit (s := S32768) o S16.size ho)
    (show (b.access (Rect.unit (s := S32768) o S16.size ho)).setOn Finset.univ ⊆ b.view.set from View.set_slice_subset _ _)) $$ Hf
  iintro Hf
  iapply Hk
  iexists _
  isplitl [Hf]
  · iexact Hf
  · ipureintro
    intro y hy
    by_cases hin : y ∈ (Finset.univ.map (Rect.unit (s := S32768) o S16.size ho).emb)
    · obtain ⟨x, -, rfl⟩ := Finset.mem_map.mp hin
      refine (View.read_slice_write_emb _ _ _ (Finset.mem_univ x)).trans ((hw x).trans (congrArg R ?_))
      show o 0 + (x 0).val = o 0 + 1 * (x 0).val
      omega
    · refine (View.read_slice_write_of_not_mem _ _ _ _ hin).trans (hf y ?_)
      rcases hy with hy | ⟨h1, h2⟩
      · exact hy
      · refine absurd ?_ hin
        rw [Rect.map_emb_univ]
        refine Rect.mem_set_unit.mpr fun a => ?_
        obtain rfl : a = 0 := Subsingleton.elim _ _
        exact ⟨h1, h2⟩

/-- A gather of a column whose words are known: what it loads is known. -/
theorem wp_gath {t : Memref sig .scVector .vmem S32768 .f32} {d : ℕ} {hd : d < 64} {v : IVec S16 32}
    {hv : ∀ a x, ((![v] : Fin 1 → IVec S16 32) a x).toNat < S512.size a} {k : Vec F S16 .f32 → Pg F (.scVector c s) α} {Q : α → sProp 𝕄}
    {D : ℕ → Prop} {R : ℕ → F .f32} (hD : ∀ x, D (512 * d + (v x).toNat)) :
    On dv c s t D R ⊢ iprop((On dv c s t D R -∗ Wp dv (k fun x => R (512 * d + (v x).toNat)) Q) -∗ Wp dv (gath t d hd v hv k) Q) := by
  unfold On gath
  iintro ⟨%f, Hf, %hf⟩ Hk
  iapply (wp_load 𝒱₀ (V dv c s) none Set.univ (m := t.slice (Rect.unit (s := S32768) ![512 * d] S512.size (colInb hd)) (fun _ => rfl)) (S := t.view.set)
    ((Finset.map_subset_map.mpr (Finset.subset_univ _)).trans (View.set_slice_subset t.view _))) $$ Hf
  iintro Hf
  have e : loadIdx ((t.slice (Rect.unit (s := S32768) ![512 * d] S512.size (colInb hd)) (fun _ => rfl)).view.readAt (Elt F) (.whole S512) f) ![v] hv
      = fun x => R (512 * d + (v x).toNat) := by
    funext x
    refine (hf _ ?_).trans (congrArg R ?_)
    · show D (512 * d + 1 * (0 + 1 * (v x).toNat))
      rw [show 512 * d + 1 * (0 + 1 * (v x).toNat) = 512 * d + (v x).toNat by omega]
      exact hD x
    · show 512 * d + 1 * (0 + 1 * (v x).toNat) = _
      omega
  rw [e]
  iapply Hk
  iexists f
  isplitl [Hf]
  · iexact Hf
  · ipureintro; exact hf

/-- Word `m` is among the sixteen that group `u` stores of column `d`. -/
abbrev At (off : Offs) (d : ℕ) (u : Fin 4) (m : ℕ) : Prop :=
  off (BitVec.ofNat 32 u.val) (BitVec.ofNat 32 (colOff d)) 0 ≤ m ∧ m < off (BitVec.ofNat 32 u.val) (BitVec.ofNat 32 (colOff d)) 0 + 16

/-- The columns from `64 - n` on: every word stored becomes known. -/
theorem wp_cols {t b : Memref sig .scVector .vmem S32768 .f32} {off : Offs} {ho : OffsOK off} {v : Fin 4 → IVec S16 32}
    {hv : ∀ u, ∀ a x, ((![v u] : Fin 1 → IVec S16 32) a x).toNat < S512.size a} {k : Pg F (.scVector c s) α} {Q : α → sProp 𝕄}
    {DT : ℕ → Prop} {RT R : ℕ → F .f32} (hD : ∀ d, d < 64 → ∀ u x, DT (512 * d + (v u x).toNat))
    (hR : ∀ (d : ℕ), d < 64 → ∀ (u : Fin 4) (x : S16.Idx),
      RT (512 * d + (v u x).toNat) = R (off (BitVec.ofNat 32 u.val) (BitVec.ofNat 32 (colOff d)) 0 + (x 0).val))
    {D' : ℕ → Prop} :
    ∀ (n : ℕ) (hn : n ≤ 64) (D : ℕ → Prop)
      (_ : ∀ m, m < 32768 → D' m → D m ∨ ∃ d, d < 64 ∧ 64 - n ≤ d ∧ ∃ u : Fin 4, At off d u m),
      iprop(On dv c s t DT RT ∗ On dv c s b D R)
        ⊢ iprop((On dv c s t DT RT -∗ On dv c s b D' R -∗ Wp dv k Q) -∗ Wp dv (cols t b off ho v hv n hn k) Q)
  | 0, _, D, h => by
    iintro ⟨Ht, Hb⟩ Hk
    unfold cols
    iapply Hk $$ Ht
    iapply (On.mono (F := F) (D := D) fun m hm hD' => (h m hm hD').elim id fun ⟨d, h1, h2, _⟩ => absurd h1 (by omega)) $$ Hb
  | n + 1, hn, D, h => by
    have hstep : ∀ m, m < 32768 → D' m → ((((D m ∨ At off (63 - n) 0 m) ∨ At off (63 - n) 1 m) ∨ At off (63 - n) 2 m)
        ∨ At off (63 - n) 3 m) ∨ ∃ d, d < 64 ∧ 64 - n ≤ d ∧ ∃ u : Fin 4, At off d u m := fun m hm hD' => by
      rcases h m hm hD' with h | ⟨d, h1, h2, u, h3⟩
      · exact .inl (.inl (.inl (.inl (.inl h))))
      · by_cases hd : d = 63 - n
        · subst hd
          left
          exact match u, h3 with
          | 0, h3 => .inl (.inl (.inl (.inr h3)))
          | 1, h3 => .inl (.inl (.inr h3))
          | 2, h3 => .inl (.inr h3)
          | 3, h3 => .inr h3
        · exact .inr ⟨d, h1, by omega, u, h3⟩
    iintro ⟨Ht, Hb⟩ Hk
    unfold cols
    iapply (wp_gath (F := F) (hD (63 - n) (by omega) 0)) $$ Ht; iintro Ht
    iapply (wp_gath (F := F) (hD (63 - n) (by omega) 1)) $$ Ht; iintro Ht
    iapply (wp_gath (F := F) (hD (63 - n) (by omega) 2)) $$ Ht; iintro Ht
    iapply (wp_gath (F := F) (hD (63 - n) (by omega) 3)) $$ Ht; iintro Ht
    iapply (wp_put (F := F) (hR (63 - n) (by omega) 0)) $$ Hb; iintro Hb
    iapply (wp_put (F := F) (hR (63 - n) (by omega) 1)) $$ Hb; iintro Hb
    iapply (wp_put (F := F) (hR (63 - n) (by omega) 2)) $$ Hb; iintro Hb
    iapply (wp_put (F := F) (hR (63 - n) (by omega) 3)) $$ Hb; iintro Hb
    iapply (wp_cols (D' := D') hD hR n _ _ hstep) $$ [Ht Hb]
    · isplitl [Ht]
      · iexact Ht
      · iexact Hb
    · iexact Hk

end

end Cert.Proof.Fill
-- ==== Proof.Rows.lean ====
/-
  The loops' bodies against plain values: the transposed table, and a row of the output, chunk by chunk.

  `tb v d` is word `d` of row `v` of the table (with the ones added on its diagonal) and `TK r j` the token at place `j`
  of a worker's row `r`.
-/
module

public import proofs.«01_k».proof.Proof.Wp
public import Idealize.ShloMosaic.Lib.Pipeline.Value

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Offsets in closed form -/

/-- Where the first row's tokens are loaded from. -/
theorem off8_eq : ∀ (t : Fin k0_t2_loop.trips) (t' : Fin k0_t3_loop.trips) (u : Fin 4),
    k0_off8 t t' (BitVec.ofNat 32 u.val) = ![(2 * t.val) / 8, (4 * t'.val + u.val) / 8, (2 * t.val) % 8, 16 * ((4 * t'.val + u.val) % 8)] := by
  decide +kernel
/-- Where the second row's tokens are loaded from. -/
theorem off12_eq : ∀ (t : Fin k0_t2_loop.trips) (t' : Fin k0_t4_loop.trips) (u : Fin 4),
    k0_off12 t t' (BitVec.ofNat 32 u.val) = ![(2 * t.val + 1) / 8, (4 * t'.val + u.val) / 8, (2 * t.val + 1) % 8, 16 * ((4 * t'.val + u.val) % 8)] := by
  decide +kernel
/-- Where the first row's words are stored. -/
theorem off9_eq : ∀ (t' : Fin k0_t3_loop.trips) (u : Fin 4) (d : Fin 64),
    k0_off9 t' (BitVec.ofNat 32 u.val) (BitVec.ofNat 32 (colOff d.val)) 0
      = (4 * t'.val + u.val) / 8 * 1024 + (4 * t'.val + u.val) % 8 * 16 + (d.val / 8 * 4096 + d.val % 8 * 128) := by
  decide +kernel
/-- Where the second row's words are stored. -/
theorem off13_eq : ∀ (t' : Fin k0_t4_loop.trips) (u : Fin 4) (d : Fin 64),
    k0_off13 t' (BitVec.ofNat 32 u.val) (BitVec.ofNat 32 (colOff d.val)) 0
      = (4 * t'.val + u.val) / 8 * 1024 + (4 * t'.val + u.val) % 8 * 16 + (d.val / 8 * 4096 + d.val % 8 * 128) := by
  decide +kernel

/-- The checks are met by any offsets below 512. -/
theorem CA_of : ∀ u v, (∀ l, (v l : BitVec 32).toNat < 512) → CA u v := by
  intro u v hv
  have h : ∀ a x, ((![v] : Fin 1 → IVec S16 32) a x).toNat < S512.size a := by
    intro a x
    obtain rfl : a = 0 := Subsingleton.elim _ _
    exact hv x
  match u with
  | 0 => show k0_chk3 v; simp only [k0_chk3, k0_chk3_0, k0_chk3_1]; constructorm* _ ∧ _ <;> exact h
  | 1 => show k0_chk4 v; simp only [k0_chk4, k0_chk4_0, k0_chk4_1]; constructorm* _ ∧ _ <;> exact h
  | 2 => show k0_chk5 v; simp only [k0_chk5, k0_chk5_0, k0_chk5_1]; constructorm* _ ∧ _ <;> exact h
  | 3 => show k0_chk6 v; simp only [k0_chk6, k0_chk6_0, k0_chk6_1]; constructorm* _ ∧ _ <;> exact h
@[inherit_doc CA_of] theorem CB_of : ∀ u v, (∀ l, (v l : BitVec 32).toNat < 512) → CB u v := by
  intro u v hv
  have h : ∀ a x, ((![v] : Fin 1 → IVec S16 32) a x).toNat < S512.size a := by
    intro a x
    obtain rfl : a = 0 := Subsingleton.elim _ _
    exact hv x
  match u with
  | 0 => show k0_chk7 v; simp only [k0_chk7, k0_chk7_0, k0_chk7_1]; constructorm* _ ∧ _ <;> exact h
  | 1 => show k0_chk8 v; simp only [k0_chk8, k0_chk8_0, k0_chk8_1]; constructorm* _ ∧ _ <;> exact h
  | 2 => show k0_chk9 v; simp only [k0_chk9, k0_chk9_0, k0_chk9_1]; constructorm* _ ∧ _ <;> exact h
  | 3 => show k0_chk10 v; simp only [k0_chk10, k0_chk10_0, k0_chk10_1]; constructorm* _ ∧ _ <;> exact h

/-- Lane `l` of sixteen tokens, as the load of them indexes it. -/
def lane4 (l : S16.Idx) : S1x1x1x16.Idx
  | 0 => (0 : Fin 1) | 1 => (0 : Fin 1) | 2 => (0 : Fin 1) | 3 => l 0

/-- A lane's number. -/
theorem iot_apply (x : S16.Idx) : iot x = BitVec.ofNat 32 (x 0).val := iota_single_apply _ _ _ _ _ _

/-- Sixteen tokens become sixteen times the token plus the lane. -/
theorem lanes_toNat (ld : Vec F S1x1x1x16 .i32) (x : S16.Idx) (k : S1x1x1x16.Idx) (hk : (k 3).val = (x 0).val) (h : (ld k : BitVec 32).toNat < 21) :
    (lanes (F := F) iot ld x).toNat = 16 * (ld k : BitVec 32).toNat + (x 0).val := by
  have e : shapeCast S16 ld shapeCasts_S1x1x1x16_S16 x = ld k := by
    refine shapeCast_apply _ _ _ _ ?_
    rw [Shape.rowMajor_val_four, Shape.rowMajor_val_one]
    have h0 : (k 0).val < 1 := (k 0).isLt
    have h1 : (k 1).val < 1 := (k 1).isLt
    have h2 : (k 2).val < 1 := (k 2).isLt
    rw [← hk]
    obtain h0 : (k 0).val = 0 := by omega
    obtain h1 : (k 1).val = 0 := by omega
    obtain h2 : (k 2).val = 0 := by omega
    rw [h0, h1, h2]
    simp
  have hx : (x 0).val < 16 := (x 0).isLt
  show ((shapeCast S16 ld shapeCasts_S1x1x1x16_S16 x : BitVec 32) * 16#32 + iot x).toNat = _
  rw [e, iot_apply, BitVec.toNat_add, BitVec.toNat_mul, BitVec.toNat_ofNat]
  show ((ld k : BitVec 32).toNat * 16 % 2 ^ 32 + (x 0).val % 2 ^ 32) % 2 ^ 32 = _
  omega

section
variable {dv : Dev nD} {c : Fin τ.nSC} {s : Fin τ.nSub} {α : Type}

/-- A finished program. -/
theorem wp_done {a : α} {Q : α → sProp 𝕄} : Q a ⊢ Wp dv (c := c) (s := s) (.ret a) Q := by
  show _ ⊢ wp _ _ _ _ _
  iintro H
  sl_step
  iexact H

/-- A worker's tokens, in its scratch. -/
def Toks (dv : Dev nD) (c : Fin τ.nSC) (s : Fin τ.nSub) (x : Memref sig .scVector .vmem S2x4x8x128 .i32) (TK : ℕ → ℕ → ℕ) : sProp 𝕄 :=
  iprop(∃ f : Buf (Elt F) (x.view.loc (V dv c s)), (x.view.loc (V dv c s) ↦[x.view.set]{fullShare} f)
    ∗ ⌜∀ y : S2x4x8x128.Idx, (x.view.read (Elt F) f y : BitVec 32).toNat = TK (8 * (y 0).val + (y 2).val) (128 * (y 1).val + (y 3).val)⌝)

/-- The table, in a worker's scratch: its first 21 rows. -/
def Tab (dv : Dev nD) (c : Fin τ.nSC) (s : Fin τ.nSub) (a : Memref sig .scVector .vmem S32x64 .f32) (tb : ℕ → ℕ → F .f32) : sProp 𝕄 :=
  iprop(∃ f : Buf (Elt F) (a.view.loc (V dv c s)), (a.view.loc (V dv c s) ↦[a.view.set]{fullShare} f)
    ∗ ⌜∀ y : S32x64.Idx, (y 0).val < 21 → a.view.read (Elt F) f y = tb (y 0).val (y 1).val⌝)

/-- The load of sixteen tokens, and their check. -/
theorem wp_toks {x : Memref sig .scVector .vmem S2x4x8x128 .i32} {o : Fin 4 → Nat} {ho : ∀ a, o a + S1x1x1x16.size a ≤ S2x4x8x128.size a}
    {C : IVec S16 32 → Prop} {dec : ∀ v, Decidable (C v)} {k : (v : IVec S16 32) → C v → Pg F (.scVector c s) α} {Q : α → sProp 𝕄}
    {TK : ℕ → ℕ → ℕ} (hT : ∀ a b, TK a b < 21) (hC : ∀ v, (∀ l, (v l : BitVec 32).toNat < 512) → C v) :
    Toks (F := F) dv c s x TK
      ⊢ iprop((∀ v h, ⌜∀ l, (v l : BitVec 32).toNat = 16 * TK (8 * o 0 + o 2) (128 * o 1 + o 3 + (l 0).val) + (l 0).val⌝ -∗ Toks (F := F) dv c s x TK -∗ Wp dv (k v h) Q)
        -∗ Wp dv (toks x o ho iot C dec k) Q) := by
  unfold Toks toks
  iintro ⟨%f, Hf, %hf⟩ Hk
  iapply (wp_load_rect 𝒱₀ (V dv c s) none Set.univ (m := x) (r := Rect.unit (s := S2x4x8x128) o S1x1x1x16.size ho) (View.set_slice_subset _ _)) $$ Hf
  iintro Hf
  have hl : ∀ l : S16.Idx, (lanes (F := F) iot ((x.access (Rect.unit (s := S2x4x8x128) o S1x1x1x16.size ho)).read (Elt F) f) l).toNat
      = 16 * TK (8 * o 0 + o 2) (128 * o 1 + o 3 + (l 0).val) + (l 0).val := by
    intro l
    have hk := hf ((Rect.unit (s := S2x4x8x128) o S1x1x1x16.size ho).emb (lane4 l))
    have hk' : ((x.access (Rect.unit (s := S2x4x8x128) o S1x1x1x16.size ho)).read (Elt F) f
        (lane4 l) : BitVec 32).toNat
          = TK (8 * o 0 + o 2) (128 * o 1 + o 3 + (l 0).val) := by
      refine Eq.trans hk ?_
      show TK (8 * (o 0 + 1 * 0) + (o 2 + 1 * 0)) (128 * (o 1 + 1 * 0) + (o 3 + 1 * (l 0).val)) = _
      congr 1 <;> omega
    rw [lanes_toNat (F := F) _ _ _ rfl (by rw [hk']; exact hT _ _), hk']
  have hc : C (lanes (F := F) iot ((x.access (Rect.unit (s := S2x4x8x128) o S1x1x1x16.size ho)).read (Elt F) f)) := hC _ fun l => by
    have h1 := hl l
    have h2 := hT (8 * o 0 + o 2) (128 * o 1 + o 3 + (l 0).val)
    have h3 : (l 0).val < 16 := (l 0).isLt
    omega
  iapply (wp_assume 𝒱₀ (V dv c s) none Set.univ hc)
  iapply Hk
  · ipureintro; exact hl
  · iexists f
    isplitl [Hf]
    · iexact Hf
    · ipureintro; exact hf

/-- The transposed table: what word `n` of it holds, and the words it has. -/
def RT (tb : ℕ → ℕ → F .f32) (n : ℕ) : F .f32 := tb (n % 512 / 16) (n / 512)
@[inherit_doc RT] def DT (n : ℕ) : Prop := n % 512 / 16 < 21

/-- What word `n` of row `r` of a worker's output holds. -/
def RR (tb : ℕ → ℕ → F .f32) (TK : ℕ → ℕ → ℕ) (r n : ℕ) : F .f32 := tb (TK r (n / 1024 % 4 * 128 + n % 128)) (n / 4096 * 8 + n % 1024 / 128)

/-- The words of a row that the first `g` chunks fill. -/
def DR (g n : ℕ) : Prop := n / 1024 % 4 * 128 + n % 128 < 64 * g

/-- A chunk fills its words of the row. -/
theorem wp_chunk {x : Memref sig .scVector .vmem S2x4x8x128 .i32} {t b : Memref sig .scVector .vmem S32768 .f32}
    {o : BitVec 32 → Fin 4 → Nat} {ho : ∀ (r : Fin 4), ∀ a, o (BitVec.ofNat 32 r.val) a + S1x1x1x16.size a ≤ S2x4x8x128.size a}
    {C : Fin 4 → IVec S16 32 → Prop} {dec : ∀ u v, Decidable (C u v)}
    {hC : ∀ u v, C u v → ∀ a x, ((![v] : Fin 1 → IVec S16 32) a x).toNat < S512.size a}
    {off : Offs} {hoff : OffsOK off} {TK : ℕ → ℕ → ℕ} {tb : ℕ → ℕ → F .f32} (hT : ∀ a b, TK a b < 21)
    (hC' : ∀ u v, (∀ l, (v l : BitVec 32).toNat < 512) → C u v) (r g : ℕ) (hg : g < 8)
    (eo : ∀ u : Fin 4, o (BitVec.ofNat 32 u.val) = ![r / 8, (4 * g + u.val) / 8, r % 8, 16 * ((4 * g + u.val) % 8)])
    (eoff : ∀ (u : Fin 4) (d : Fin 64), off (BitVec.ofNat 32 u.val) (BitVec.ofNat 32 (colOff d.val)) 0
      = (4 * g + u.val) / 8 * 1024 + (4 * g + u.val) % 8 * 16 + (d.val / 8 * 4096 + d.val % 8 * 128)) :
    iprop(Toks (F := F) dv c s x TK ∗ On dv c s t DT (RT tb) ∗ On dv c s b (DR g) (RR tb TK r))
      ⊢ Wp dv (c := c) (s := s) (chunk x t b iot o ho C dec hC off hoff)
          (fun _ => iprop(Toks (F := F) dv c s x TK ∗ On dv c s t DT (RT tb) ∗ On dv c s b (DR (g + 1)) (RR tb TK r))) := by
  unfold chunk
  iintro ⟨Hx, Ht, Hb⟩
  iapply (wp_toks (F := F) hT (hC' 0)) $$ Hx; iintro %v₀ %h₀ %e₀ Hx
  iapply (wp_toks (F := F) hT (hC' 1)) $$ Hx; iintro %v₁ %h₁ %e₁ Hx
  iapply (wp_toks (F := F) hT (hC' 2)) $$ Hx; iintro %v₂ %h₂ %e₂ Hx
  iapply (wp_toks (F := F) hT (hC' 3)) $$ Hx; iintro %v₃ %h₃ %e₃ Hx
  have key : ∀ (u : Fin 4) (l : S16.Idx), 16 * TK (8 * o (BitVec.ofNat 32 u.val) 0 + o (BitVec.ofNat 32 u.val) 2)
        (128 * o (BitVec.ofNat 32 u.val) 1 + o (BitVec.ofNat 32 u.val) 3 + (l 0).val) + (l 0).val
      = 16 * TK r (16 * (4 * g + u.val) + (l 0).val) + (l 0).val := by
    intro u l
    rw [eo u]
    show 16 * TK (8 * (r / 8) + r % 8) (128 * ((4 * g + u.val) / 8) + 16 * ((4 * g + u.val) % 8) + (l 0).val) + (l 0).val = _
    rw [show 8 * (r / 8) + r % 8 = r by omega, show 128 * ((4 * g + u.val) / 8) + 16 * ((4 * g + u.val) % 8) = 16 * (4 * g + u.val) by omega]
  have hv : ∀ (u : Fin 4) (l : S16.Idx), (((fun | 0 => v₀ | 1 => v₁ | 2 => v₂ | 3 => v₃ : Fin 4 → IVec S16 32) u l) : BitVec 32).toNat
      = 16 * TK r (16 * (4 * g + u.val) + (l 0).val) + (l 0).val := by
    intro u l
    match u with
    | 0 => exact (e₀ l).trans (key 0 l)
    | 1 => exact (e₁ l).trans (key 1 l)
    | 2 => exact (e₂ l).trans (key 2 l)
    | 3 => exact (e₃ l).trans (key 3 l)
  have hD : ∀ d, d < 64 → ∀ (u : Fin 4) (l : S16.Idx), DT (512 * d + (((fun | 0 => v₀ | 1 => v₁ | 2 => v₂ | 3 => v₃ : Fin 4 → IVec S16 32) u l) : BitVec 32).toNat) := by
    intro d hd u l
    have h1 := hT r (16 * (4 * g + u.val) + (l 0).val)
    have h2 : (l 0).val < 16 := (l 0).isLt
    rw [hv]
    show (512 * d + _) % 512 / 16 < 21
    omega
  have hR : ∀ d, d < 64 → ∀ (u : Fin 4) (l : S16.Idx), RT tb (512 * d + (((fun | 0 => v₀ | 1 => v₁ | 2 => v₂ | 3 => v₃ : Fin 4 → IVec S16 32) u l) : BitVec 32).toNat)
      = RR tb TK r (off (BitVec.ofNat 32 u.val) (BitVec.ofNat 32 (colOff d)) 0 + (l 0).val) := by
    intro d hd u l
    have h1 := hT r (16 * (4 * g + u.val) + (l 0).val)
    have h2 : (l 0).val < 16 := (l 0).isLt
    have h3 := u.isLt
    rw [hv, eoff u ⟨d, hd⟩]
    unfold RT RR
    congr 1
    · rw [show (512 * d + (16 * TK r (16 * (4 * g + u.val) + (l 0).val) + (l 0).val)) % 512 / 16 = TK r (16 * (4 * g + u.val) + (l 0).val) by omega]
      congr 1
      show _ = ((4 * g + u.val) / 8 * 1024 + (4 * g + u.val) % 8 * 16 + (d / 8 * 4096 + d % 8 * 128) + (l 0).val) / 1024 % 4 * 128
        + ((4 * g + u.val) / 8 * 1024 + (4 * g + u.val) % 8 * 16 + (d / 8 * 4096 + d % 8 * 128) + (l 0).val) % 128
      omega
    · show _ = ((4 * g + u.val) / 8 * 1024 + (4 * g + u.val) % 8 * 16 + (d / 8 * 4096 + d % 8 * 128) + (l 0).val) / 4096 * 8
        + ((4 * g + u.val) / 8 * 1024 + (4 * g + u.val) % 8 * 16 + (d / 8 * 4096 + d % 8 * 128) + (l 0).val) % 1024 / 128
      omega
  have hs : ∀ m, m < 32768 → DR (g + 1) m → DR g m ∨ ∃ d, d < 64 ∧ 64 - 64 ≤ d ∧ ∃ u : Fin 4, At off d u m := by
    intro m hm h
    unfold DR at h ⊢
    by_cases h' : m / 1024 % 4 * 128 + m % 128 < 64 * g
    · exact .inl h'
    · refine .inr ⟨m / 4096 * 8 + m % 1024 / 128, by omega, by omega, ⟨(m / 1024 % 4 * 128 + m % 128 - 64 * g) / 16, by omega⟩, ?_⟩
      have e := eoff ⟨(m / 1024 % 4 * 128 + m % 128 - 64 * g) / 16, by omega⟩ ⟨m / 4096 * 8 + m % 1024 / 128, by omega⟩
      unfold At
      rw [e]
      show (4 * g + (m / 1024 % 4 * 128 + m % 128 - 64 * g) / 16) / 8 * 1024 + (4 * g + (m / 1024 % 4 * 128 + m % 128 - 64 * g) / 16) % 8 * 16
          + ((m / 4096 * 8 + m % 1024 / 128) / 8 * 4096 + (m / 4096 * 8 + m % 1024 / 128) % 8 * 128) ≤ m
        ∧ m < (4 * g + (m / 1024 % 4 * 128 + m % 128 - 64 * g) / 16) / 8 * 1024 + (4 * g + (m / 1024 % 4 * 128 + m % 128 - 64 * g) / 16) % 8 * 16
          + ((m / 4096 * 8 + m % 1024 / 128) / 8 * 4096 + (m / 4096 * 8 + m % 1024 / 128) % 8 * 128) + 16
      rw [show 4 * g + (m / 1024 % 4 * 128 + m % 128 - 64 * g) / 16 = m / 1024 % 4 * 8 + m % 128 / 16 by omega]
      omega
  iapply (wp_cols (F := F) (D' := DR (g + 1)) hD hR 64 le_rfl (DR g) hs) $$ [Ht Hb]
  · isplitl [Ht]
    · iexact Ht
    · iexact Hb
  · iintro Ht Hb
    iapply wp_done
    isplitl [Hx]
    · iexact Hx
    isplitl [Ht]
    · iexact Ht
    · iexact Hb

end

end Cert.Proof.Fill
-- ==== Proof.Loops.lean ====
/-
  The transposition of the table, and the two fills of a row, each as a whole loop.
-/
module

public import proofs.«01_k».proof.Proof.Rows

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable {dv : Dev nD} {c : Fin τ.nSC} {s : Fin τ.nSub} {α : Type}

/-- The load of sixteen words of a row of the table. -/
theorem wp_rowq {a : Memref sig .scVector .vmem S32x64 .f32} {o : Fin 2 → Nat} {ho : ∀ i, o i + S1x16.size i ≤ S32x64.size i}
    {k : Vec F S16 .f32 → Pg F (.scVector c s) α} {Q : α → sProp 𝕄} {tb : ℕ → ℕ → F .f32} (h : o 0 < 21) :
    Tab dv c s a tb
      ⊢ iprop((∀ v, ⌜∀ y : S16.Idx, v y = tb (o 0) (o 1 + (y 0).val)⌝ -∗ Tab dv c s a tb -∗ Wp dv (k v) Q) -∗ Wp dv (rowq a o ho k) Q) := by
  unfold Tab rowq
  iintro ⟨%f, Hf, %hf⟩ Hk
  iapply (wp_load_rect 𝒱₀ (V dv c s) none Set.univ (m := a) (r := Rect.unit (s := S32x64) o S1x16.size ho) (View.set_slice_subset _ _)) $$ Hf
  iintro Hf
  iapply Hk
  · ipureintro
    intro y
    have e : shapeCast S16 ((a.access (Rect.unit (s := S32x64) o S1x16.size ho)).read (Elt F) f) shapeCasts_S1x16_S16 y
        = (a.access (Rect.unit (s := S32x64) o S1x16.size ho)).read (Elt F) f (fun | 0 => (0 : Fin 1) | 1 => y 0) := by
      refine shapeCast_apply _ _ _ _ ?_
      refine (Shape.rowMajor_val_two _).trans ((Shape.rowMajor_val_one _).trans ?_).symm
      show (y 0).val = 0 * _ + (y 0).val
      omega
    refine Eq.trans e ((hf ((Rect.unit (s := S32x64) o S1x16.size ho).emb (fun | 0 => (0 : Fin 1) | 1 => y 0)) ?_).trans ?_)
    · show o 0 + 1 * 0 < 21
      omega
    · show tb (o 0 + 1 * 0) (o 1 + 1 * (y 0).val) = _
      congr 1
      omega
  · iexists f
    isplitl [Hf]
    · iexact Hf
    · ipureintro; exact hf

/-- Lane `l` of sixteen. -/
def lane1 {l : ℕ} (hl : l < 16) : S16.Idx
  | 0 => (⟨l, hl⟩ : Fin 16)

omit [FloatOps F] in
/-- Every word of a splat is the lane it splats. -/
theorem splat_apply (v : Vec F S16 .f32) {l : ℕ} (hl : l < 16) (h : S16.Slices ![l] S1) (x : S16.Idx) : splat v l h x = v (lane1 hl) := by
  refine congrArg v (funext fun i => ?_)
  obtain rfl : i = 0 := Subsingleton.elim _ _
  exact Fin.ext (show l + 0 = l by omega)

/-- The lanes from `16 - n` on: the words their splats are stored at become known. -/
theorem wp_spread {t : Memref sig .scVector .vmem S32768 .f32} {off : BitVec 32 → Fin 1 → Nat}
    {ho : ∀ d : Fin 64, Fits (off (BitVec.ofNat 32 (512 * d.val)))} {q : Fin 4} {v : Vec F S16 .f32} {k : Pg F (.scVector c s) α} {Q : α → sProp 𝕄}
    {tb : ℕ → ℕ → F .f32} {tr : ℕ} (htr : tr < 21) (eoff : ∀ d : Fin 64, off (BitVec.ofNat 32 (512 * d.val)) = ![512 * d.val + 16 * tr])
    (hv : ∀ y : S16.Idx, v y = tb tr (16 * q.val + (y 0).val)) {D' : ℕ → Prop} :
    ∀ (n : ℕ) (hn : n ≤ 16) (D : ℕ → Prop)
      (_ : ∀ m, m < 32768 → D' m → D m ∨ ∃ l, l < 16 ∧ 16 - n ≤ l ∧ 512 * (16 * q.val + l) + 16 * tr ≤ m ∧ m < 512 * (16 * q.val + l) + 16 * tr + 16),
      On dv c s t D (RT tb) ⊢ iprop((On dv c s t D' (RT tb) -∗ Wp dv k Q) -∗ Wp dv (spread t off ho q v n hn k) Q)
  | 0, _, D, h => by
    iintro Ht Hk
    unfold spread
    iapply Hk
    iapply (On.mono (F := F) (D := D) fun m hm hD' => (h m hm hD').elim id fun ⟨d, h1, h2, _⟩ => absurd h1 (by omega)) $$ Ht
  | n + 1, hn, D, h => by
    have hq := q.isLt
    have e := eoff ⟨16 * q.val + (15 - n), by omega⟩
    have hw : ∀ x : S16.Idx, splat v (15 - n) (laneSlices (by omega)) x
        = RT tb (off (BitVec.ofNat 32 (512 * (16 * q.val + (15 - n)))) 0 + (x 0).val) := by
      intro x
      have hx : (x 0).val < 16 := (x 0).isLt
      rw [splat_apply v (show 15 - n < 16 by omega), hv, e]
      unfold RT
      show tb tr (16 * q.val + (15 - n)) = tb ((512 * (16 * q.val + (15 - n)) + 16 * tr + (x 0).val) % 512 / 16) ((512 * (16 * q.val + (15 - n)) + 16 * tr + (x 0).val) / 512)
      congr 1 <;> omega
    have hstep : ∀ m, m < 32768 → D' m → (D m ∨ (off (BitVec.ofNat 32 (512 * (16 * q.val + (15 - n)))) 0 ≤ m
        ∧ m < off (BitVec.ofNat 32 (512 * (16 * q.val + (15 - n)))) 0 + 16))
        ∨ ∃ l, l < 16 ∧ 16 - n ≤ l ∧ 512 * (16 * q.val + l) + 16 * tr ≤ m ∧ m < 512 * (16 * q.val + l) + 16 * tr + 16 := by
      intro m hm hD'
      rcases h m hm hD' with h | ⟨l, h1, h2, h3⟩
      · exact .inl (.inl h)
      · by_cases hl : l = 15 - n
        · subst hl
          rw [e]
          exact .inl (.inr h3)
        · exact .inr ⟨l, h1, by omega, h3⟩
    iintro Ht Hk
    unfold spread
    iapply (wp_put (F := F) hw) $$ Ht; iintro Ht
    iapply (wp_spread (D' := D') htr eoff hv n _ _ hstep) $$ Ht
    iexact Hk

/-- The words of the transposed table that the first `n` rows give, and `q` quarters of row `n`. -/
def DQ (n q m : ℕ) : Prop := m % 512 / 16 < n ∨ (m % 512 / 16 = n ∧ m / 512 < 16 * q)

/-- A word that one quarter more gives is one given already, or one of the sixteen that some lane of the quarter gives. -/
theorem DQ_step {n q : ℕ} (hq : q < 4) : ∀ m, m < 32768 → DQ n (q + 1) m → DQ n q m
    ∨ ∃ l, l < 16 ∧ 16 - 16 ≤ l ∧ 512 * (16 * q + l) + 16 * n ≤ m ∧ m < 512 * (16 * q + l) + 16 * n + 16 := by
  intro m hm h
  unfold DQ at h ⊢
  by_cases h' : m / 512 < 16 * q ∨ m % 512 / 16 < n
  · left; omega
  · right
    exact ⟨m / 512 - 16 * q, by omega, by omega, by omega, by omega⟩

variable (i : grid0.Coords) (arg6 : Memref sig .scVector .vmem S32x64 .f32) (arg7 : Memref sig .scVector .vmem S32768 .f32)

/-- The transposition's body adds a row of the table. -/
theorem wp_tBody {tb : ℕ → ℕ → F .f32} (t : Fin k0_t1_loop.trips) :
    iprop(Tab dv ((i 0).castLE hcore0) ((i 1).castLE hsub0) arg6 tb ∗ On dv ((i 0).castLE hcore0) ((i 1).castLE hsub0) arg7 (DQ t.val 0) (RT tb))
      ⊢ Wp dv (tBody (F := F) i arg6 arg7 t) (fun _ => iprop(Tab dv ((i 0).castLE hcore0) ((i 1).castLE hsub0) arg6 tb
          ∗ On dv ((i 0).castLE hcore0) ((i 1).castLE hsub0) arg7 (DQ (t.val + 1) 0) (RT tb))) := by
  have ht : t.val < 21 := Nat.lt_of_lt_of_le t.isLt k0_t1_abs.2.1
  have e2 := k0_off2_eq t
  have e4 := k0_off4_eq t
  have e5 := k0_off5_eq t
  have e6 := k0_off6_eq t
  unfold tBody
  iintro ⟨Ha, Ht⟩
  iapply (wp_rowq (F := F) (by rw [e2]; exact ht)) $$ Ha; iintro %v0 %h0 Ha
  iapply (wp_spread (F := F) (tr := t.val) ht (k0_off3_eq t) (fun y => (h0 y).trans (by rw [e2]; rfl)) 16 le_rfl _ (DQ_step (q := 0) (by decide))) $$ Ht; iintro Ht
  iapply (wp_rowq (F := F) (by rw [e4]; exact ht)) $$ Ha; iintro %v1 %h1 Ha
  iapply (wp_spread (F := F) (tr := t.val) ht (k0_off3_eq t) (fun y => (h1 y).trans (by rw [e4]; rfl)) 16 le_rfl _ (DQ_step (q := 1) (by decide))) $$ Ht; iintro Ht
  iapply (wp_rowq (F := F) (by rw [e5]; exact ht)) $$ Ha; iintro %v2 %h2 Ha
  iapply (wp_spread (F := F) (tr := t.val) ht (k0_off3_eq t) (fun y => (h2 y).trans (by rw [e5]; rfl)) 16 le_rfl _ (DQ_step (q := 2) (by decide))) $$ Ht; iintro Ht
  iapply (wp_rowq (F := F) (by rw [e6]; exact ht)) $$ Ha; iintro %v3 %h3 Ha
  iapply (wp_spread (F := F) (tr := t.val) ht (k0_off3_eq t) (fun y => (h3 y).trans (by rw [e6]; rfl)) 16 le_rfl _ (DQ_step (q := 3) (by decide))) $$ Ht; iintro Ht
  iapply wp_done
  isplitl [Ha]
  · iexact Ha
  · iapply (On.mono (F := F) fun m hm h => ?_) $$ Ht
    unfold DQ at h ⊢
    omega

/-- The pass over the table takes 21 turns, one for each row. -/
theorem trips1 : k0_t1_loop.trips = 21 := by decide +kernel
/-- The loop over pairs of rows takes 8 turns. -/
theorem trips2 : k0_t2_loop.trips = 8 := by decide +kernel
/-- The loop over the first row's columns takes 8 turns. -/
theorem trips3 : k0_t3_loop.trips = 8 := by decide +kernel
/-- The loop over the second row's columns takes 8 turns. -/
theorem trips4 : k0_t4_loop.trips = 8 := by decide +kernel

/-- The transposition, whole. -/
theorem wp_trans {tb : ℕ → ℕ → F .f32} {k : BitVec 32 → Pg F (.scVector ((i 0).castLE hcore0) ((i 1).castLE hsub0)) α} {Q : α → sProp 𝕄} :
    iprop(Tab dv ((i 0).castLE hcore0) ((i 1).castLE hsub0) arg6 tb ∗ ∃ R, On dv ((i 0).castLE hcore0) ((i 1).castLE hsub0) arg7 (fun _ => False) R)
      ⊢ iprop((∀ r, Tab dv ((i 0).castLE hcore0) ((i 1).castLE hsub0) arg6 tb -∗ On dv ((i 0).castLE hcore0) ((i 1).castLE hsub0) arg7 DT (RT tb) -∗ Wp dv (k r) Q)
        -∗ Wp dv (Scf.Loop.for k0_t1_loop k0_t1_ok 0#32 (fun t _ => tBody (F := F) i arg6 arg7 t) >>= k) Q) := by
  iintro ⟨Ha, %R, Ht⟩ Hk
  iapply (Scf.wp_for_bind frame (wpE (defs₀ (F := F)) 𝒱₀ (V dv ((i 0).castLE hcore0) ((i 1).castLE hsub0)) none) Set.univ _ _ _ _ _ _
    (fun n _ => iprop(Tab dv ((i 0).castLE hcore0) ((i 1).castLE hsub0) arg6 tb ∗ On dv ((i 0).castLE hcore0) ((i 1).castLE hsub0) arg7 (DQ n 0) (RT tb)))
    (fun t _ => wp_tBody (F := F) i arg6 arg7 t)) $$ [Ha Ht]
  · isplitl [Ha]
    · iexact Ha
    · iapply (On.congr (F := F) fun m hm h => ?_) $$ Ht
      unfold DQ at h
      omega
  · iintro %r ⟨Ha, Ht⟩
    iapply Hk $$ [Ha] [Ht]
    · iexact Ha
    · iapply (On.mono (F := F) fun m hm h => ?_) $$ Ht
      have e : Scf.trips k0_t1_loop.lb k0_t1_loop.ub k0_t1_loop.st = 21 := trips1
      unfold DQ
      rw [e]
      exact .inl h

variable (arg5 : Memref sig .scVector .vmem S2x4x8x128 .i32) (arg8 : Memref sig .scVector .vmem S32768 .f32)

/-- A fill of the first buffer, whole: it holds row `2 t`. -/
theorem wp_rowA {tb : ℕ → ℕ → F .f32} {TK : ℕ → ℕ → ℕ} (hT : ∀ a b, TK a b < 21) (t : Fin k0_t2_loop.trips)
    {k : BitVec 32 → Pg F (.scVector ((i 0).castLE hcore0) ((i 1).castLE hsub0)) α} {Q : α → sProp 𝕄} :
    iprop(Toks (F := F) dv ((i 0).castLE hcore0) ((i 1).castLE hsub0) arg5 TK ∗ On dv ((i 0).castLE hcore0) ((i 1).castLE hsub0) arg7 DT (RT tb)
        ∗ ∃ R, On dv ((i 0).castLE hcore0) ((i 1).castLE hsub0) arg8 (fun _ => False) R)
      ⊢ iprop((∀ r, Toks (F := F) dv ((i 0).castLE hcore0) ((i 1).castLE hsub0) arg5 TK -∗ On dv ((i 0).castLE hcore0) ((i 1).castLE hsub0) arg7 DT (RT tb)
          -∗ On dv ((i 0).castLE hcore0) ((i 1).castLE hsub0) arg8 (fun _ => True) (RR tb TK (2 * t.val)) -∗ Wp dv (k r) Q)
        -∗ Wp dv (Scf.Loop.for k0_t3_loop k0_t3_ok 0#32 (fun t' _ => rowA (F := F) i arg5 arg7 arg8 t t') >>= k) Q) := by
  iintro ⟨Hx, Ht, %R, Hb⟩ Hk
  iapply (Scf.wp_for_bind frame (wpE (defs₀ (F := F)) 𝒱₀ (V dv ((i 0).castLE hcore0) ((i 1).castLE hsub0)) none) Set.univ _ _ _ _ _ _
    (fun n _ => iprop(Toks (F := F) dv ((i 0).castLE hcore0) ((i 1).castLE hsub0) arg5 TK ∗ On dv ((i 0).castLE hcore0) ((i 1).castLE hsub0) arg7 DT (RT tb)
        ∗ On dv ((i 0).castLE hcore0) ((i 1).castLE hsub0) arg8 (DR n) (RR tb TK (2 * t.val))))
    (fun t' _ => wp_chunk (F := F) hT CA_of (2 * t.val) t'.val (Nat.lt_of_lt_of_le t'.isLt k0_t3_abs.2.1) (off8_eq t t') (off9_eq t'))) $$ [Hx Ht Hb]
  · isplitl [Hx]
    · iexact Hx
    isplitl [Ht]
    · iexact Ht
    · iapply (On.congr (F := F) fun m hm h => ?_) $$ Hb
      unfold DR at h
      omega
  · iintro %r ⟨Hx, Ht, Hb⟩
    iapply Hk $$ [Hx] [Ht] [Hb]
    · iexact Hx
    · iexact Ht
    · iapply (On.mono (F := F) fun m hm h => ?_) $$ Hb
      have e : Scf.trips k0_t3_loop.lb k0_t3_loop.ub k0_t3_loop.st = 8 := trips3
      unfold DR
      rw [e]
      omega

/-- A fill of the second buffer, whole: it holds row `2 t + 1`. -/
theorem wp_rowB {tb : ℕ → ℕ → F .f32} {TK : ℕ → ℕ → ℕ} (hT : ∀ a b, TK a b < 21) (t : Fin k0_t2_loop.trips)
    {k : BitVec 32 → Pg F (.scVector ((i 0).castLE hcore0) ((i 1).castLE hsub0)) α} {Q : α → sProp 𝕄} :
    iprop(Toks (F := F) dv ((i 0).castLE hcore0) ((i 1).castLE hsub0) arg5 TK ∗ On dv ((i 0).castLE hcore0) ((i 1).castLE hsub0) arg7 DT (RT tb)
        ∗ ∃ R, On dv ((i 0).castLE hcore0) ((i 1).castLE hsub0) arg8 (fun _ => False) R)
      ⊢ iprop((∀ r, Toks (F := F) dv ((i 0).castLE hcore0) ((i 1).castLE hsub0) arg5 TK -∗ On dv ((i 0).castLE hcore0) ((i 1).castLE hsub0) arg7 DT (RT tb)
          -∗ On dv ((i 0).castLE hcore0) ((i 1).castLE hsub0) arg8 (fun _ => True) (RR tb TK (2 * t.val + 1)) -∗ Wp dv (k r) Q)
        -∗ Wp dv (Scf.Loop.for k0_t4_loop k0_t4_ok 0#32 (fun t' _ => rowB (F := F) i arg5 arg7 arg8 t t') >>= k) Q) := by
  iintro ⟨Hx, Ht, %R, Hb⟩ Hk
  iapply (Scf.wp_for_bind frame (wpE (defs₀ (F := F)) 𝒱₀ (V dv ((i 0).castLE hcore0) ((i 1).castLE hsub0)) none) Set.univ _ _ _ _ _ _
    (fun n _ => iprop(Toks (F := F) dv ((i 0).castLE hcore0) ((i 1).castLE hsub0) arg5 TK ∗ On dv ((i 0).castLE hcore0) ((i 1).castLE hsub0) arg7 DT (RT tb)
        ∗ On dv ((i 0).castLE hcore0) ((i 1).castLE hsub0) arg8 (DR n) (RR tb TK (2 * t.val + 1))))
    (fun t' _ => wp_chunk (F := F) hT CB_of (2 * t.val + 1) t'.val (Nat.lt_of_lt_of_le t'.isLt k0_t4_abs.2.1) (off12_eq t t') (off13_eq t'))) $$ [Hx Ht Hb]
  · isplitl [Hx]
    · iexact Hx
    isplitl [Ht]
    · iexact Ht
    · iapply (On.congr (F := F) fun m hm h => ?_) $$ Hb
      unfold DR at h
      omega
  · iintro %r ⟨Hx, Ht, Hb⟩
    iapply Hk $$ [Hx] [Ht] [Hb]
    · iexact Hx
    · iexact Ht
    · iapply (On.mono (F := F) fun m hm h => ?_) $$ Hb
      have e : Scf.trips k0_t4_loop.lb k0_t4_loop.ub k0_t4_loop.st = 8 := trips4
      unfold DR
      rw [e]
      omega

end

end Cert.Proof.Fill
-- ==== Proof.Scatter.lean ====
/-
  The two scatters with add: sixteen lanes (of which the mask keeps some) each add one to the diagonal word it names.
-/
module

public import proofs.«01_k».proof.Proof.Loops

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The one that is added. -/
def one : F .f32 := Scalar.ofBits .f32 0x3F800000#32

/-- The table with one added at the places `v = d` of the diagonal that `P` has. -/
def bump (P : ℕ → Prop) [DecidablePred P] (T : ℕ → ℕ → F .f32) (v d : ℕ) : F .f32 := if v = d ∧ P v then Elt.idxAdd .f32 (T v d) one else T v d

/-- A lane's step of the scatter. -/
def hit (p : IVec S16 32) (h : ∀ a x, ((![p, p] : Fin 2 → IVec S16 32) a x).toNat < S32x64.size a) (mk : IVec S16 1)
    (g : S32x64.Idx → F .f32) (k : Fin 16) : S32x64.Idx → F .f32 :=
  if mk (Shape.ofLane (d := ![16]) k) = 1 then
    fun j => if (∀ a, (j a).val = (idxAt ![p, p] h (Shape.ofLane (d := ![16]) k) a).val)
      then Elt.idxAdd .f32 (g (idxAt ![p, p] h (Shape.ofLane (d := ![16]) k))) one else g j
  else g

/-- An indexed store that adds ones is the sixteen lanes' additions, one after the other. -/
theorem storeIdx_eq (p : IVec S16 32) (h : ∀ a x, ((![p, p] : Fin 2 → IVec S16 32) a x).toNat < S32x64.size a) (mk : IVec S16 1)
    (f : S32x64.Idx → F .f32) : storeIdx (F := F) (e := .f32) f ![p, p] ones mk true h = (List.finRange 16).foldl (hit p h mk) f := by
  have e1 : ∀ x, ones (F := F) x = one := fun x => by unfold ones one; rfl
  unfold storeIdx hit
  simp only [↓reduceIte, e1]
  rfl

omit [FloatOps F] in
/-- A place of the table is its row and its column. -/
theorem idx2_ext {x y : S32x64.Idx} (h0 : (x 0).val = (y 0).val) (h1 : (x 1).val = (y 1).val) : x = y := by
  funext a
  match a with
  | 0 => exact Fin.ext h0
  | 1 => exact Fin.ext h1

/-- A lane's step at a word: one is added if the lane is kept and names the word. -/
theorem hit_apply (p : IVec S16 32) (h : ∀ a x, ((![p, p] : Fin 2 → IVec S16 32) a x).toNat < S32x64.size a) (mk : IVec S16 1)
    (g : S32x64.Idx → F .f32) (k : Fin 16) (y : S32x64.Idx) :
    hit p h mk g k y = if mk (Shape.ofLane (d := ![16]) k) = 1 ∧ (y 0).val = (p (Shape.ofLane (d := ![16]) k)).toNat ∧ (y 1).val = (p (Shape.ofLane (d := ![16]) k)).toNat
      then Elt.idxAdd .f32 (g y) one else g y := by
  unfold hit
  by_cases hm : mk (Shape.ofLane (d := ![16]) k) = 1
  · rw [if_pos hm]
    by_cases hy : (y 0).val = (p (Shape.ofLane (d := ![16]) k)).toNat ∧ (y 1).val = (p (Shape.ofLane (d := ![16]) k)).toNat
    · have e : y = idxAt ![p, p] h (Shape.ofLane (d := ![16]) k) := idx2_ext hy.1 hy.2
      rw [← e]
      exact (if_pos fun a => rfl).trans (if_pos ⟨hm, hy⟩).symm
    · exact (if_neg fun h' => hy ⟨h' 0, h' 1⟩).trans (if_neg fun h' => hy h'.2).symm
  · rw [if_neg hm, if_neg fun h' => hm h'.1]

/-- All the lanes of a list without repetition, naming different words. -/
theorem foldl_hit (p : IVec S16 32) (h : ∀ a x, ((![p, p] : Fin 2 → IVec S16 32) a x).toNat < S32x64.size a) (mk : IVec S16 1)
    (hp : ∀ k k' : Fin 16, (p (Shape.ofLane (d := ![16]) k)).toNat = (p (Shape.ofLane (d := ![16]) k')).toNat → k = k') (y : S32x64.Idx) :
    ∀ (L : List (Fin 16)) (_ : L.Nodup) (g : S32x64.Idx → F .f32), L.foldl (hit p h mk) g y
      = if ∃ k ∈ L, mk (Shape.ofLane (d := ![16]) k) = 1 ∧ (y 0).val = (p (Shape.ofLane (d := ![16]) k)).toNat ∧ (y 1).val = (p (Shape.ofLane (d := ![16]) k)).toNat
        then Elt.idxAdd .f32 (g y) one else g y
  | [], _, g => (if_neg fun ⟨k, hk, _⟩ => absurd hk List.not_mem_nil).symm
  | k :: L, hL, g => by
    rw [List.foldl_cons, foldl_hit p h mk hp y L (List.nodup_cons.mp hL).2, hit_apply]
    by_cases hk : mk (Shape.ofLane (d := ![16]) k) = 1 ∧ (y 0).val = (p (Shape.ofLane (d := ![16]) k)).toNat ∧ (y 1).val = (p (Shape.ofLane (d := ![16]) k)).toNat
    · rw [if_pos hk]
      refine (if_neg ?_).trans (if_pos ⟨k, List.mem_cons_self, hk⟩).symm
      rintro ⟨k', hk', -, e, -⟩
      obtain rfl := hp k k' (hk.2.1.symm.trans e)
      exact (List.nodup_cons.mp hL).1 hk'
    · rw [if_neg hk]
      by_cases hx : ∃ k' ∈ L, mk (Shape.ofLane (d := ![16]) k') = 1 ∧ (y 0).val = (p (Shape.ofLane (d := ![16]) k')).toNat ∧ (y 1).val = (p (Shape.ofLane (d := ![16]) k')).toNat
      · obtain ⟨k', hk', e⟩ := hx
        rw [if_pos ⟨k', hk', e⟩, if_pos ⟨k', List.mem_cons_of_mem _ hk', e⟩]
      · rw [if_neg hx, if_neg]
        rintro ⟨k', hk', e⟩
        rcases List.mem_cons.mp hk' with rfl | hk'
        · exact hk e
        · exact hx ⟨k', hk', e⟩

section
variable {dv : Dev nD} {c : Fin τ.nSC} {s : Fin τ.nSub} {α : Type}

/-- A scatter with add on the diagonal of the table, in a program. -/
theorem wp_scatter {a : Memref sig .scVector .vmem S32x64 .f32} {p : IVec S16 32} {mk : IVec S16 1}
    {h : ∀ a x, ((![p, p] : Fin 2 → IVec S16 32) a x).toNat < S32x64.size a} {hs : (a.access (.whole S32x64)).Stores Finset.univ}
    {k : PUnit → Pg F (.scVector c s) α} {Q : α → sProp 𝕄} {T : ℕ → ℕ → F .f32} {P : ℕ → Prop} [DecidablePred P]
    (hp : ∀ k k' : Fin 16, (p (Shape.ofLane (d := ![16]) k)).toNat = (p (Shape.ofLane (d := ![16]) k')).toNat → k = k')
    (hP : ∀ n, n < 21 → (P n ↔ ∃ k : Fin 16, mk (Shape.ofLane (d := ![16]) k) = 1 ∧ n = (p (Shape.ofLane (d := ![16]) k)).toNat)) :
    Tab dv c s a T ⊢ iprop((Tab dv c s a (bump P T) -∗ Wp dv (k ⟨⟩) Q)
      -∗ Wp dv (c := c) (s := s) (SparseCore.vectorStoreIdx a ![p, p] ones mk true h hs >>= k) Q) := by
  unfold Tab
  iintro ⟨%f, Hf, %hf⟩ Hk
  have hset : (a.access (.whole S32x64)).set = a.view.set := (View.set_slice _ _).trans (by rw [Rect.set_whole]; rfl)
  iapply (SparseCore.wp_vectorStoreIdx 𝒱₀ (V dv c s) none Set.univ (base := a) (f := f)) $$ [Hf]
  · rw [hset]; iexact Hf
  iintro Hf
  iapply Hk
  iexists _
  isplitl [Hf]
  · rw [hset]; iexact Hf
  · ipureintro
    intro y hy
    have e : ∀ g w, a.view.read (Elt F) ((a.access (.whole S32x64)).write (Elt F) g w Finset.univ) y = w y := fun g w => by
      have := View.read_slice_write_emb (v := a.view) (Val := Elt F) (Rect.whole S32x64) g w (Finset.mem_univ y)
      rw [Rect.emb_whole_apply] at this
      exact this
    rw [e, storeIdx_eq, foldl_hit p h mk hp y _ (List.nodup_finRange 16)]
    unfold bump
    have ef : (a.access (.whole S32x64)).read (Elt F) f y = T (y 0).val (y 1).val := by
      rw [← hf y hy]
      exact congrArg (a.view.read (Elt F) f) (Rect.emb_whole_apply S32x64 y)
    rw [ef]
    refine if_congr ?_ rfl rfl
    constructor
    · rintro ⟨k, -, h1, h2, h3⟩
      exact ⟨h2.trans h3.symm, (hP _ hy).mpr ⟨k, h1, h2⟩⟩
    · rintro ⟨h1, h2⟩
      obtain ⟨k, h3, h4⟩ := (hP _ hy).mp h2
      exact ⟨k, List.mem_finRange k, h3, h4, h1.symm.trans h4⟩

end

/-- The lanes of the two scatters: they name different places of the diagonal, 0 to 15 and 16 to 31. -/
theorem lane_iot : ∀ k : Fin 16, (iot (Shape.ofLane (d := ![16]) k)).toNat = k.val := by decide +kernel
@[inherit_doc lane_iot] theorem lane_iot' : ∀ k : Fin 16, (iot' (Shape.ofLane (d := ![16]) k)).toNat = k.val + 16 := by decide +kernel
/-- The mask of the second keeps those below 21. -/
theorem lane_mask : ∀ k : Fin 16, mask (Shape.ofLane (d := ![16]) k) = 1 ↔ k.val + 16 < 21 := by decide +kernel

/-- The first scatter's indices are in range. -/
theorem chk1 : k0_chk1 iot := by decide +kernel
/-- The second scatter's indices are in range. -/
theorem chk2 : k0_chk2 iot' := by decide +kernel

end Cert.Proof.Fill
-- ==== Proof.Copies.lean ====
/-
  The copies out: a buffer of 32768 words to a row of the output, and the waits for them. Each of the two buffers has a
  semaphore of its own; before the first pair nothing is in flight on it, after pair `p` the copy of pair `p`'s row is.
-/
module

public import proofs.«01_k».proof.Proof.Scatter

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The output, as the kernel names it. -/
abbrev oV : Memref sig .scVector .hbm S512x32768 .f32 := Memref.whole main_v2_scv

/-- The output, as the whole device names it. -/
abbrev oLoc (d : Dev nD) : Loc nD τ sig := (T d : Thread nD τ).loc main_v2

/-- The words of row `n` of the output. -/
def rowS (n : ℕ) : Finset S512x32768.Idx := Finset.univ.filter fun j => (j 0).val = n

/-- A row, at what the kernel is to leave in it, and at anything. -/
def OUT (G : ℕ → ℕ → F .f32) : S512x32768.Idx → F .f32 := fun j => G (j 0).val (j 1).val
@[inherit_doc OUT] def RowDone (dv : Dev nD) (G : ℕ → ℕ → F .f32) (n : ℕ) : sProp 𝕄 := oLoc dv ↦[rowS n]{fullShare} (OUT G : Buf (Elt F) (oLoc dv))
@[inherit_doc OUT] def RowOld (dv : Dev nD) (n : ℕ) : sProp 𝕄 := iprop(∃ f : Buf (Elt F) (oLoc dv), oLoc dv ↦[rowS n]{fullShare} f)

/-- Where word `y` of a row of the output lies. -/
theorem emb_outRow {o : Fin 2 → Nat} {ho : ∀ a, o a + S1x32768.size a ≤ S512x32768.size a} (h1 : o 1 = 0) (y : S32768.Idx) :
    ((((outRow oV o ho).view.emb y : S512x32768.Idx) 0).val = o 0) ∧ ((((outRow oV o ho).view.emb y : S512x32768.Idx) 1).val = (y 0).val) := by
  have e : Shape.reshapeEquiv squeezes_S1x32768_S32768.numel_eq y = (fun | 0 => (0 : Fin 1) | 1 => (⟨(y 0).val, (y 0).isLt⟩ : Fin 32768) : S1x32768.Idx) := by
    apply Shape.reshapeEquiv_eq_of_rowMajor
    rw [Shape.rowMajor_val_one, Shape.rowMajor_val_two]
    show 0 * _ + (y 0).val = _
    omega
  have e2 : ((outRow oV o ho).view.emb y : S512x32768.Idx) = (Rect.unit (s := S512x32768) o S1x32768.size ho).emb (Shape.reshapeEquiv squeezes_S1x32768_S32768.numel_eq y) := rfl
  rw [e2, e]
  constructor
  · show o 0 + 1 * 0 = _
    omega
  · show o 1 + 1 * (y 0).val = _
    omega

/-- The words of the output's slice are those of its row. -/
theorem set_outRow {o : Fin 2 → Nat} {ho : ∀ a, o a + S1x32768.size a ≤ S512x32768.size a} {n : ℕ} (h0 : o 0 = n) (h1 : o 1 = 0) :
    ((outRow oV o ho).view.set : Finset S512x32768.Idx) = rowS n := by
  ext j
  constructor
  · intro hj
    obtain ⟨y, -, rfl⟩ := Finset.mem_map.mp hj
    exact Finset.mem_filter.mpr ⟨Finset.mem_univ _, (emb_outRow h1 y).1.trans h0⟩
  · intro hj
    have hn := (Finset.mem_filter.mp hj).2
    refine Finset.mem_map.mpr ⟨(fun | 0 => (⟨(j 1).val, (j 1).isLt⟩ : Fin 32768) : S32768.Idx), Finset.mem_univ _, ?_⟩
    funext a
    match a with
    | 0 => exact Fin.ext ((emb_outRow (ho := ho) h1 _).1.trans (h0.trans hn.symm))
    | 1 => exact Fin.ext (emb_outRow (ho := ho) h1 _).2

/-- What a copy out adds to its semaphore. -/
def NC : ℕ := (outRow oV ![0, 0] (by decide)).view.dmaCredit
/-- A row's copy carries some credit. -/
theorem NC_pos : 0 < NC := by decide +kernel

section
variable (dv : Dev nD) (c : Fin τ.nSC) (s : Fin τ.nSub)

/-- A buffer and its semaphore before pair `p`; `base` is the row that the buffer's first pair copies out. -/
def Slot (b : Memref sig .scVector .vmem S32768 .f32) (sm : DmaSem sig) (G : ℕ → ℕ → F .f32) (base : ℕ) : ℕ → sProp 𝕄
  | 0 => iprop((∃ R, On dv c s b (fun _ => False) R) ∗ semVal (V dv c s, .dma sm) 0)
  | p + 1 => Transfers.Flight countersEmb (V dv c s) (.dma sm) (default : HIx 1) NC iprop(RowDone dv G (base + 2 * p) ∗ ∃ R, On dv c s b (fun _ => False) R)

/-- The row that the wait before pair `p` brings back. -/
def Prev (G : ℕ → ℕ → F .f32) (base : ℕ) : ℕ → sProp 𝕄
  | 0 => iprop(emp)
  | p + 1 => RowDone dv G (base + 2 * p)

/-- The task's debts, with the waits it has made since `W`. -/
def Owes (O : CellTallies nD τ sig (HIx 1)) (W : Waits sig (HIx 1)) : sProp 𝕄 :=
  iprop(∃ W', ⌜∀ q ∈ W', q ∈ W ∨ q.2 = none⌝ ∗ owes (V dv c s) O W')

variable {dv c s} {α : Type}

/-- Waits that are old, or that wait on no handshake, remain so with one more wait on a semaphore of the kernel's own. -/
theorem Owes.insert {W W' : Waits sig (HIx 1)} (h : ∀ q ∈ W', q ∈ W ∨ q.2 = none) (sm : SemLoc sig) :
    ∀ q ∈ insert (sm, (default : HIx 1)) W', q ∈ W ∨ q.2 = none := by
  intro q hq
  rcases Finset.mem_insert.mp hq with rfl | hq
  · exact .inr rfl
  · exact h q hq

/-- The wait for a buffer's copy out, whatever row the wait names. -/
theorem wp_wait {b : Memref sig .scVector .vmem S32768 .f32} {sm : DmaSem sig} {G : ℕ → ℕ → F .f32} {base p : ℕ} {O : CellTallies nD τ sig (HIx 1)}
    {W : Waits sig (HIx 1)} {o : Fin 2 → Nat} {ho : ∀ a, o a + S1x32768.size a ≤ S512x32768.size a} {h1 : b.view.WordExact} {h2 : (outRow oV o ho).view.WordExact}
    {k : PUnit → Pg F (.scVector c s) α} {Q : α → sProp 𝕄} :
    iprop(Transfers.MayWaits (V dv c s) (default : HIx 1) O ∗ Slot dv c s b sm G base (p + 1) ∗ Owes dv c s O W)
      ⊢ iprop(((∃ R, On dv c s b (fun _ => False) R) ∗ semVal (V dv c s, .dma sm) 0 ∗ RowDone dv G (base + 2 * p) ∗ Owes dv c s O W -∗ Wp dv (k ⟨⟩) Q)
        -∗ Wp dv (c := c) (s := s) (.op (.waitDma2 sm b (outRow oV o ho) h1 h2) k) Q) := by
  unfold Slot Owes
  iintro ⟨#Hmw, Hf, %W', %hW', HO⟩ Hk
  iapply (Transfers.wp_waitLocalO countersEmb 𝒱₀ (V dv c s) none (srcw := b) (dstw := outRow oV o ho) (hsrc := h1) (hdst := h2) (default : HIx 1) (N := NC) rfl (O := O) (W := W')) $$ [Hf HO]
  · isplitl [Hf]
    · iexact Hf
    isplitl [HO]
    · iexact HO
    · iapply (Transfers.MayWaits.elim (.dma sm)) $$ Hmw
  iintro ⟨⟨Hr, Hb⟩, Hs, HO⟩
  iapply Hk
  isplitl [Hb]
  · iexact Hb
  isplitl [Hs]
  · iexact Hs
  isplitl [Hr]
  · iexact Hr
  iexists (insert (SemLoc.dma sm, (default : HIx 1)) W')
  isplitr
  · ipureintro; exact Owes.insert hW' _
  · iexact HO

/-- The guarded wait that opens a half of a pair. -/
theorem wp_take {b : Memref sig .scVector .vmem S32768 .f32} {sm : DmaSem sig} {G : ℕ → ℕ → F .f32} {base p : ℕ} {O : CellTallies nD τ sig (HIx 1)}
    {W : Waits sig (HIx 1)} {C : Prop} [Decidable C] (hC : C ↔ p ≠ 0) {o : Fin 2 → Nat} {ho : C → ∀ a, o a + S1x32768.size a ≤ S512x32768.size a} {h1 : b.view.WordExact}
    {h2 : ∀ h, (outRow oV o (ho h)).view.WordExact} {k : PUnit → Pg F (.scVector c s) α} {Q : α → sProp 𝕄} :
    iprop(Transfers.MayWaits (V dv c s) (default : HIx 1) O ∗ Slot dv c s b sm G base p ∗ Owes dv c s O W)
      ⊢ iprop(((∃ R, On dv c s b (fun _ => False) R) ∗ semVal (V dv c s, .dma sm) 0 ∗ Prev dv G base p ∗ Owes dv c s O W -∗ Wp dv (k ⟨⟩) Q)
        -∗ Wp dv (c := c) (s := s) ((if h : C then (.op (.waitDma2 sm b (outRow oV o (ho h)) h1 (h2 h)) .ret : Pg F (.scVector c s) PUnit) else .ret ⟨⟩) >>= k) Q) := by
  cases p with
  | zero =>
    rw [dif_neg fun h => (hC.mp h) rfl]
    unfold Slot Prev
    iintro ⟨-, ⟨Hb, Hs⟩, HO⟩ Hk
    simp only [Prog.bind_ret]
    iapply Hk
    isplitl [Hb]
    · iexact Hb
    isplitl [Hs]
    · iexact Hs
    isplitr
    · iempintro
    · iexact HO
  | succ p =>
    rw [dif_pos (hC.mpr (Nat.succ_ne_zero p))]
    simp only [Prog.bind_op, Prog.bind_ret]
    exact wp_wait

/-- The copy out of a filled buffer. -/
theorem wp_send {b : Memref sig .scVector .vmem S32768 .f32} {sm : DmaSem sig} {G : ℕ → ℕ → F .f32} {base p : ℕ} {R : ℕ → F .f32}
    {o : Fin 2 → Nat} {ho : ∀ a, o a + S1x32768.size a ≤ S512x32768.size a} {h1 : b.view.WordExact} {h2 : (outRow oV o ho).view.WordExact} {h3}
    {k : PUnit → Pg F (.scVector c s) α} {Q : α → sProp 𝕄} (h0 : o 0 = base + 2 * p) (h01 : o 1 = 0) (hR : ∀ n, R n = G (base + 2 * p) n) :
    iprop(On dv c s b (fun _ => True) R ∗ semVal (V dv c s, .dma sm) 0 ∗ RowOld (F := F) dv (base + 2 * p))
      ⊢ iprop((Slot dv c s b sm G base (p + 1) -∗ Wp dv (k ⟨⟩) Q)
        -∗ Wp dv (c := c) (s := s) (.op (.enqueueDma b (.here (outRow oV o ho)) (.dma sm) h1 h2 h3) k) Q) := by
  have hset := set_outRow (ho := ho) h0 h01
  unfold On RowOld
  iintro ⟨⟨%f, Hb, %hf⟩, Hs, %g, Hr⟩ Hk
  iapply (Transfers.wp_dmaLocal countersEmb 𝒱₀ (V dv c s) none (src := b) (dst := outRow oV o ho) (sm := .dma sm) (q := fullShare) (fs := f) (fd := g)
    (Sd := rowS (base + 2 * p)) (default : HIx 1) NC rfl NC_pos (subset_of_eq hset)) $$ [Hb Hs Hr]
  · isplitl [Hb]
    · iexact Hb
    isplitl [Hr]
    · iexact Hr
    · iexact Hs
  iintro Hf
  iapply Hk
  unfold Slot
  iapply (Transfers.Flight_mono countersEmb (V dv c s) ?_) $$ Hf
  iintro ⟨Hr, Hb⟩
  isplitl [Hr]
  · unfold RowDone
    iapply (Entails.of_eq ?_) $$ Hr
    refine pointsTo_congr fun j hj => ?_
    rw [← hset] at hj
    obtain ⟨y, -, rfl⟩ := Finset.mem_map.mp hj
    rw [View.write_emb_of_mem _ _ (Finset.mem_univ y)]
    refine (cast_eq _ _).trans ?_
    refine (hf y trivial).trans ((hR _).trans ?_)
    unfold OUT
    rw [(emb_outRow (ho := ho) h01 y).1, (emb_outRow (ho := ho) h01 y).2, h0]
  · iexists (fun _ => one)
    unfold On
    iexists f
    isplitl [Hb]
    · iexact Hb
    · ipureintro
      exact fun y hy => hy.elim

end

end Cert.Proof.Fill
-- ==== Proof.Pairs.lean ====
/-
  The eight pairs of rows: the invariant of the loop over them, and the loop with the two waits that follow it.
-/
module

public import proofs.«01_k».proof.Proof.Copies
public import Idealize.SL.BI.BigOpNat

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable {dv : Dev nD} {α : Type} (i : grid0.Coords)
variable (arg5 : Memref sig .scVector .vmem S2x4x8x128 .i32) (arg7 : Memref sig .scVector .vmem S32768 .f32)
variable (arg8 : Memref sig .scVector .vmem S32768 .f32) (harg8 : arg8.IsWhole) (arg9 : Memref sig .scVector .vmem S32768 .f32) (harg9 : arg9.IsWhole)
variable (arg10 arg11 : DmaSems sig S_)

/-- The subcore of a task. -/
abbrev cc : Fin τ.nSC := (i 0).castLE hcore0
@[inherit_doc cc] abbrev ss : Fin τ.nSub := (i 1).castLE hsub0

/-- A task's first row of the output. -/
def row0 : ℕ := 32 * (i 1).val + 16 * (i 0).val

/-- A pair, as binds. -/
theorem pair_eq (t : Fin k0_t2_loop.trips) : pair (F := F) i oV arg5 arg7 arg8 harg8 arg9 harg9 arg10 arg11 t =
    ((if h : k0_cond1 t = 1#1 then (.op (.waitDma2 arg10.sem arg8 (outRow oV (k0_off7 i t) (k0_off7_inb i t h)) harg8.wordExact ((View.wordExact_bits rfl).reshape _ _)) .ret
        : Pg F (.scVector ((i 0).castLE hcore0) ((i 1).castLE hsub0)) PUnit) else .ret ⟨⟩) >>= fun _ =>
      Scf.Loop.for k0_t3_loop k0_t3_ok 0#32 (fun t' _ => rowA i arg5 arg7 arg8 t t') >>= fun _ =>
      .op (.enqueueDma arg8 (.here (outRow oV (k0_off10 i t) (k0_off10_inb i t))) (.dma arg10.sem) harg8.wordExact ((View.wordExact_bits rfl).reshape _ _) ⟨Or.inl rfl, trivial⟩) fun _ =>
      (if h : k0_cond2 t = 1#1 then (.op (.waitDma2 arg11.sem arg9 (outRow oV (k0_off11 i t) (k0_off11_inb i t h)) harg9.wordExact ((View.wordExact_bits rfl).reshape _ _)) .ret
        : Pg F (.scVector ((i 0).castLE hcore0) ((i 1).castLE hsub0)) PUnit) else .ret ⟨⟩) >>= fun _ =>
      Scf.Loop.for k0_t4_loop k0_t4_ok 0#32 (fun t' _ => rowB i arg5 arg7 arg9 t t') >>= fun _ =>
      .op (.enqueueDma arg9 (.here (outRow oV (k0_off14 i t) (k0_off14_inb i t))) (.dma arg11.sem) harg9.wordExact ((View.wordExact_bits rfl).reshape _ _) ⟨Or.inl rfl, trivial⟩) fun _ =>
      .ret 0#32) := by
  unfold pair
  by_cases h1 : k0_cond1 t = 1#1 <;> by_cases h2 : k0_cond2 t = 1#1 <;> simp only [h1, h2, ↓reduceDIte] <;> rfl

/-- A task's tokens, from those of the whole input. -/
abbrev TKw (tok : ℕ → ℕ → ℕ) (r j : ℕ) : ℕ := tok (row0 i + r) j

variable (dv) in
/-- Before pair `p`. -/
def PairInv (tok : ℕ → ℕ → ℕ) (tb : ℕ → ℕ → F .f32) (O : CellTallies nD τ sig (HIx 1)) (W : Waits sig (HIx 1)) (p : ℕ) : sProp 𝕄 :=
  iprop(Transfers.MayWaits (V dv (cc i) (ss i)) (default : HIx 1) O
    ∗ Toks (F := F) dv (cc i) (ss i) arg5 (TKw i tok) ∗ On dv (cc i) (ss i) arg7 DT (RT tb)
    ∗ Slot dv (cc i) (ss i) arg8 arg10.sem (RR tb tok) (row0 i) p ∗ Slot dv (cc i) (ss i) arg9 arg11.sem (RR tb tok) (row0 i + 1) p
    ∗ bigSep (Finset.Ico (row0 i + 2 * p) (row0 i + 16)) (RowOld (F := F) dv) ∗ bigSep (Finset.Ico (row0 i) (row0 i + 2 * (p - 1))) (RowDone dv (RR tb tok))
    ∗ Owes dv (cc i) (ss i) O W)

/-- The first buffer is waited for in every turn but the first. -/
theorem cond1_iff : ∀ t : Fin k0_t2_loop.trips, k0_cond1 t = 1#1 ↔ t.val ≠ 0 := by decide +kernel
/-- The second buffer is waited for in every turn but the first. -/
theorem cond2_iff : ∀ t : Fin k0_t2_loop.trips, k0_cond2 t = 1#1 ↔ t.val ≠ 0 := by decide +kernel

/-- The rows two waits bring back join those already done. -/
theorem done_step (G : ℕ → ℕ → F .f32) (n p : ℕ) :
    iprop(Prev dv G n p ∗ Prev dv G (n + 1) p ∗ bigSep (Finset.Ico n (n + 2 * (p - 1))) (RowDone dv G)) ⊢ (bigSep (Finset.Ico n (n + 2 * (p + 1 - 1))) (RowDone dv G) : sProp 𝕄) := by
  cases p with
  | zero =>
    unfold Prev
    iintro ⟨-, -, H⟩
    iexact H
  | succ p =>
    have e1 : (Prev dv G n (p + 1) : sProp 𝕄) = RowDone dv G (n + 2 * p) := rfl
    have e2 : (Prev dv G (n + 1) (p + 1) : sProp 𝕄) = RowDone dv G (n + 2 * p + 1) := by
      rw [show n + 2 * p + 1 = n + 1 + 2 * p by omega]
      rfl
    rw [e1, e2, show n + 2 * (p + 1 + 1 - 1) = n + 2 * p + 1 + 1 by omega, show n + 2 * (p + 1 - 1) = n + 2 * p by omega, bigSep_Ico_succ_top (by omega), bigSep_Ico_succ_top (by omega)]
    iintro ⟨H1, H2, H⟩
    isplitl [H2]
    · iexact H2
    isplitl [H1]
    · iexact H1
    · iexact H

/-- A turn fills two rows and starts their copies out. -/
theorem wp_pair {tok : ℕ → ℕ → ℕ} {tb : ℕ → ℕ → F .f32} (hT : ∀ a b, tok a b < 21) {O : CellTallies nD τ sig (HIx 1)} {W : Waits sig (HIx 1)} (t : Fin k0_t2_loop.trips) :
    PairInv dv i arg5 arg7 arg8 arg9 arg10 arg11 tok tb O W t.val
      ⊢ Wp dv (pair (F := F) i oV arg5 arg7 arg8 harg8 arg9 harg9 arg10 arg11 t) fun _ => PairInv dv i arg5 arg7 arg8 arg9 arg10 arg11 tok tb O W (t.val + 1) := by
  have ht : t.val < 8 := Nat.lt_of_lt_of_le t.isLt (Nat.le_of_eq trips2)
  rw [pair_eq]
  unfold PairInv
  rw [bigSep_Ico_succ_bot (show row0 i + 2 * t.val < row0 i + 16 by omega), bigSep_Ico_succ_bot (show row0 i + 2 * t.val + 1 < row0 i + 16 by omega),
    show row0 i + 2 * (t.val + 1) = row0 i + 2 * t.val + 1 + 1 by omega]
  iintro ⟨#Hmw, Hx, Ht, Ha, Hb, ⟨Hr1, Hr2, Hold⟩, Hdone, HO⟩
  iapply (wp_take (F := F) (cond1_iff t)) $$ [Ha HO]
  · isplitr
    · iexact Hmw
    isplitl [Ha]
    · iexact Ha
    · iexact HO
  iintro ⟨Ha, Has, Hp1, HO⟩
  iapply (wp_rowA (F := F) i arg7 arg5 arg8 (fun a b => hT _ _) t) $$ [Hx Ht Ha]
  · isplitl [Hx]
    · iexact Hx
    isplitl [Ht]
    · iexact Ht
    · iexact Ha
  iintro %_ Hx Ht Ha
  have h10 : k0_off10 i t 0 = row0 i + 2 * t.val := by rw [k0_off10_eq]; rfl
  have h10' : k0_off10 i t 1 = 0 := by rw [k0_off10_eq]; rfl
  have h14 : k0_off14 i t 0 = row0 i + 1 + 2 * t.val := by rw [k0_off14_eq]; unfold row0; show _ + _ = _; omega
  have h14' : k0_off14 i t 1 = 0 := by rw [k0_off14_eq]; rfl
  iapply (wp_send (F := F) (R := RR tb (TKw i tok) (2 * t.val)) (G := RR tb tok) h10 h10' (fun n => rfl)) $$ [Ha Has Hr1]
  · isplitl [Ha]
    · iexact Ha
    isplitl [Has]
    · iexact Has
    · iexact Hr1
  iintro Ha
  iapply (wp_take (F := F) (cond2_iff t)) $$ [Hb HO]
  · isplitr
    · iexact Hmw
    isplitl [Hb]
    · iexact Hb
    · iexact HO
  iintro ⟨Hb, Hbs, Hp2, HO⟩
  iapply (wp_rowB (F := F) i arg7 arg5 arg9 (fun a b => hT _ _) t) $$ [Hx Ht Hb]
  · isplitl [Hx]
    · iexact Hx
    isplitl [Ht]
    · iexact Ht
    · iexact Hb
  iintro %_ Hx Ht Hb
  have hR : ∀ n, RR tb (TKw i tok) (2 * t.val + 1) n = RR tb tok (row0 i + 1 + 2 * t.val) n := fun n => by
    rw [show row0 i + 1 + 2 * t.val = row0 i + (2 * t.val + 1) by omega]
    rfl
  iapply (wp_send (F := F) h14 h14' hR) $$ [Hb Hbs Hr2]
  · isplitl [Hb]
    · iexact Hb
    isplitl [Hbs]
    · iexact Hbs
    · rw [show row0 i + 1 + 2 * t.val = row0 i + 2 * t.val + 1 by omega]
      iexact Hr2
  iintro Hb
  iapply wp_done
  isplitr
  · iexact Hmw
  isplitl [Hx]
  · iexact Hx
  isplitl [Ht]
  · iexact Ht
  isplitl [Ha]
  · iexact Ha
  isplitl [Hb]
  · iexact Hb
  isplitl [Hold]
  · iexact Hold
  isplitl [Hp1 Hp2 Hdone]
  · iapply (done_step (F := F) (RR tb tok) (row0 i) t.val) $$ [Hp1 Hp2 Hdone]
    isplitl [Hp1]
    · iexact Hp1
    isplitl [Hp2]
    · iexact Hp2
    · iexact Hdone
  · iexact HO

variable (arg6 : Memref sig .scVector .vmem S32x64 .f32)

/-- The loop over the pairs and the two waits after it: all sixteen rows are done, and the buffers and their semaphores
    are free. -/
theorem wp_pairs {tok : ℕ → ℕ → ℕ} {tb : ℕ → ℕ → F .f32} (hT : ∀ a b, tok a b < 21) {O : CellTallies nD τ sig (HIx 1)} {W : Waits sig (HIx 1)}
    {o o' : Fin 2 → Nat} {ho : ∀ a, o a + S1x32768.size a ≤ S512x32768.size a} {ho' : ∀ a, o' a + S1x32768.size a ≤ S512x32768.size a}
    {h1 : arg8.view.WordExact} {h2 : (outRow oV o ho).view.WordExact} {h1' : arg9.view.WordExact} {h2' : (outRow oV o' ho').view.WordExact} {Q : PUnit → sProp 𝕄} :
    PairInv dv i arg5 arg7 arg8 arg9 arg10 arg11 tok tb O W 0
      ⊢ iprop((Toks (F := F) dv (cc i) (ss i) arg5 (TKw i tok) -∗ On dv (cc i) (ss i) arg7 DT (RT tb)
            -∗ (∃ R, On dv (cc i) (ss i) arg8 (fun _ => False) R) -∗ (∃ R, On dv (cc i) (ss i) arg9 (fun _ => False) R)
            -∗ semVal (V dv (cc i) (ss i), .dma arg10.sem) 0 -∗ semVal (V dv (cc i) (ss i), .dma arg11.sem) 0
            -∗ bigSep (Finset.Ico (row0 i) (row0 i + 16)) (RowDone dv (RR tb tok)) -∗ Owes dv (cc i) (ss i) O W -∗ Q ⟨⟩)
        -∗ Wp dv (Scf.Loop.for k0_t2_loop k0_t2_ok 0#32 (fun t _ => pair (F := F) i oV arg5 arg7 arg8 harg8 arg9 harg9 arg10 arg11 t) >>= fun _ =>
          .op (.waitDma2 arg10.sem arg8 (outRow oV o ho) h1 h2) fun _ => .op (.waitDma2 arg11.sem arg9 (outRow oV o' ho') h1' h2') fun _ => .ret ⟨⟩) Q) := by
  iintro H Hk
  iapply (Scf.wp_for_bind frame (wpE (defs₀ (F := F)) 𝒱₀ (V dv ((i 0).castLE hcore0) ((i 1).castLE hsub0)) none) Set.univ _ _ _ _ _ _
    (fun n _ => PairInv dv i arg5 arg7 arg8 arg9 arg10 arg11 tok tb O W n)
    (fun t _ => wp_pair (F := F) i arg5 arg7 arg8 harg8 arg9 harg9 arg10 arg11 hT t)) $$ [H]
  · iexact H
  have e : Scf.trips k0_t2_loop.lb k0_t2_loop.ub k0_t2_loop.st = 7 + 1 := trips2
  rw [e]
  unfold PairInv
  rw [show row0 i + 2 * (7 + 1 - 1) = row0 i + 14 by omega, show row0 i + 16 = row0 i + 14 + 1 + 1 by omega]
  rw [bigSep_Ico_succ_top (show row0 i ≤ row0 i + 14 + 1 by omega) (RowDone dv (RR tb tok)), bigSep_Ico_succ_top (show row0 i ≤ row0 i + 14 by omega) (RowDone dv (RR tb tok))]
  iintro %_ ⟨#Hmw, Hx, Ht, Ha, Hb, -, Hdone, HO⟩
  iapply (wp_wait (F := F)) $$ [Ha HO]
  · isplitr
    · iexact Hmw
    isplitl [Ha]
    · iexact Ha
    · iexact HO
  iintro ⟨Ha, Has, Hp1, HO⟩
  iapply (wp_wait (F := F)) $$ [Hb HO]
  · isplitr
    · iexact Hmw
    isplitl [Hb]
    · iexact Hb
    · iexact HO
  iintro ⟨Hb, Hbs, Hp2, HO⟩
  iapply wp_done
  iapply Hk $$ [Hx] [Ht] [Ha] [Hb] [Has] [Hbs] [Hp1 Hp2 Hdone] [HO]
  · iexact Hx
  · iexact Ht
  · iexact Ha
  · iexact Hb
  · iexact Has
  · iexact Hbs
  · isplitl [Hp2]
    · rw [show row0 i + 14 + 1 = row0 i + 1 + 2 * 7 by omega]
      iexact Hp2
    isplitl [Hp1]
    · iexact Hp1
    · iexact Hdone
  · iexact HO

end

end Cert.Proof.Fill
-- ==== Proof.Task.lean ====
/-
  A task, whole: the copies in of its tokens and of the table, the two scatters, the transposition, the pairs of rows.
-/
module

public import proofs.«01_k».proof.Proof.Pairs

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The table and the tokens, as the kernel names them, and as the whole device does. -/
abbrev tV : Memref sig .scVector .hbm S21x64 .f32 := Memref.whole main_arg1_scv
@[inherit_doc tV] abbrev iV : Memref sig .scVector .hbm S64x4x8x128 .i32 := Memref.whole main_v1_scv
@[inherit_doc tV] abbrev tLoc (d : Dev nD) : Loc nD τ sig := (T d : Thread nD τ).loc main_arg1
@[inherit_doc tV] abbrev iLoc (d : Dev nD) : Loc nD τ sig := (T d : Thread nD τ).loc main_v1

/-- The table after the two scatters: one added at `v = d`. -/
def TB (tb : ℕ → ℕ → F .f32) : ℕ → ℕ → F .f32 := bump (fun n => 16 ≤ n) (bump (fun n => n < 16) tb)

/-- The table with ones added on its diagonal, at a place. -/
theorem TB_apply (tb : ℕ → ℕ → F .f32) (v d : ℕ) : TB tb v d = if v = d then Elt.idxAdd .f32 (tb v d) one else tb v d := by
  unfold TB bump
  by_cases h : v = d
  · by_cases h' : v < 16
    · rw [if_neg (fun x => by omega), if_pos ⟨h, h'⟩, if_pos h]
    · rw [if_pos ⟨h, by omega⟩, if_neg (fun x => h' x.2), if_pos h]
  · rw [if_neg (fun x => h x.1), if_neg (fun x => h x.1), if_neg h]

section
variable {dv : Dev nD} {c : Fin τ.nSC} {s : Fin τ.nSub} {α : Type}

/-- A check that holds. -/
theorem wp_chk {P : Prop} {d : Decidable P} {k : PLift P → Pg F (.scVector c s) α} {Q : α → sProp 𝕄} (h : P) :
    Wp dv (k ⟨h⟩) Q ⊢ Wp dv (c := c) (s := s) (.op (.assume P d) k) Q := wp_assume 𝒱₀ (V dv c s) none Set.univ h

/-- A buffer with any contents is one of which no word is filled yet. -/
theorem On.intro {b : Memref sig .scVector .vmem S32768 .f32} (f : Buf (Elt F) (b.view.loc (V dv c s))) :
    (b.view.loc (V dv c s) ↦[b.view.set]{fullShare} f : sProp 𝕄) ⊢ iprop(∃ R, On dv c s b (fun _ => False) R) := by
  iintro H
  iexists (fun _ => one)
  unfold On
  iexists f
  isplitl [H]
  · iexact H
  · ipureintro
    exact fun y hy => hy.elim

/-- A buffer filled so far is a buffer with some contents. -/
theorem On.elim {b : Memref sig .scVector .vmem S32768 .f32} {D : ℕ → Prop} {R : ℕ → F .f32} :
    On dv c s b D R ⊢ (iprop(∃ f, b.view.loc (V dv c s) ↦[b.view.set]{fullShare} f) : sProp 𝕄) := by
  unfold On
  iintro ⟨%f, H, -⟩
  iexists f
  iexact H

/-- The buffer of the tokens is a buffer with some contents. -/
theorem Toks.elim {b : Memref sig .scVector .vmem S2x4x8x128 .i32} {TK : ℕ → ℕ → ℕ} :
    Toks (F := F) dv c s b TK ⊢ (iprop(∃ f, b.view.loc (V dv c s) ↦[b.view.set]{fullShare} f) : sProp 𝕄) := by
  unfold Toks
  iintro ⟨%f, H, -⟩
  iexists f
  iexact H

/-- The buffer of the table is a buffer with some contents. -/
theorem Tab.elim {b : Memref sig .scVector .vmem S32x64 .f32} {tb : ℕ → ℕ → F .f32} :
    Tab dv c s b tb ⊢ (iprop(∃ f, b.view.loc (V dv c s) ↦[b.view.set]{fullShare} f) : sProp 𝕄) := by
  unfold Tab
  iintro ⟨%f, H, -⟩
  iexists f
  iexact H

/-- A copy in and its wait: the destination's buffer holds what the copy wrote, the source is as it was. -/
theorem wp_fetch {sp sp' : Space} {e : EltTy} {z : Shape} {src : Memref sig .scVector sp z e} {dst : Memref sig .scVector sp' z e} {sm : DmaSem sig}
    {h1 : src.view.WordExact} {h2 : dst.view.WordExact} {h3} {h1' : src.view.WordExact} {h2' : dst.view.WordExact} {k : PUnit → Pg F (.scVector c s) α} {Q : α → sProp 𝕄}
    {O : CellTallies nD τ sig (HIx 1)} {W : Waits sig (HIx 1)} {q : PosShare TreeShare} {fs : Buf (Elt F) (src.view.loc (V dv c s))} {S : Finset (Idx (src.view.loc (V dv c s)))}
    (hS : src.view.set ⊆ S) {Sd : Finset (Idx (dst.view.loc (V dv c s)))} {fd : Buf (Elt F) (dst.view.loc (V dv c s))} (hSd : dst.view.set ⊆ Sd)
    (hN : dst.view.amount (.dma sm) = dst.view.dmaCredit) (hN0 : 0 < dst.view.dmaCredit) :
    iprop(Transfers.MayWaits (V dv c s) (default : HIx 1) O ∗ (src.view.loc (V dv c s) ↦[S]{q} fs) ∗ (dst.view.loc (V dv c s) ↦[Sd]{fullShare} fd)
        ∗ semVal (V dv c s, .dma sm) 0 ∗ Owes dv c s O W)
      ⊢ iprop(((src.view.loc (V dv c s) ↦[S]{q} fs) ∗ (dst.view.loc (V dv c s) ↦[Sd]{fullShare} dst.view.write (Elt F) fd (src.view.read (Elt F) fs) Finset.univ)
          ∗ semVal (V dv c s, .dma sm) 0 ∗ Owes dv c s O W -∗ Wp dv (k ⟨⟩) Q)
        -∗ Wp dv (c := c) (s := s) (.op (.enqueueDma src (.here dst) (.dma sm) h1 h2 h3) fun _ => .op (.waitDma2 sm src dst h1' h2') k) Q) := by
  iintro ⟨#Hmw, Hs, Hd, Hv, HO⟩ Hk
  ihave Hs' := (pointsTo_split_subset (q := q) (f := fs) hS).1 $$ Hs
  icases Hs' with ⟨Hs, Hrest⟩
  iapply (Transfers.wp_dmaLocal countersEmb 𝒱₀ (V dv c s) none (src := src) (dst := dst) (sm := .dma sm) (q := q) (fs := fs) (fd := fd)
    (Sd := Sd) (default : HIx 1) dst.view.dmaCredit hN hN0 hSd) $$ [Hs Hd Hv]
  · isplitl [Hs]
    · iexact Hs
    isplitl [Hd]
    · iexact Hd
    · iexact Hv
  iintro Hf
  unfold Owes
  icases HO with ⟨%W', %hW', HO⟩
  iapply (Transfers.wp_waitLocalO countersEmb 𝒱₀ (V dv c s) none (srcw := src) (dstw := dst) (hsrc := h1') (hdst := h2') (default : HIx 1) (N := dst.view.dmaCredit) rfl (O := O) (W := W')) $$ [Hf HO]
  · isplitl [Hf]
    · iexact Hf
    isplitl [HO]
    · iexact HO
    · iapply (Transfers.MayWaits.elim (.dma sm)) $$ Hmw
  iintro ⟨⟨Hd, Hs⟩, Hv, HO⟩
  iapply Hk
  isplitl [Hs Hrest]
  · iapply (pointsTo_split_subset (q := q) (f := fs) hS).2 $$ [Hs Hrest]
    isplitl [Hs]
    · iexact Hs
    · iexact Hrest
  isplitl [Hd]
  · iexact Hd
  isplitl [Hv]
  · iexact Hv
  iexists (insert (SemLoc.dma sm, (default : HIx 1)) W')
  isplitr
  · ipureintro; exact Owes.insert hW' _
  · iexact HO

end

section
variable {dv : Dev nD} (i : grid0.Coords)
variable (arg5 : Memref sig .scVector .vmem S2x4x8x128 .i32) (harg5 : arg5.IsWhole) (arg6 : Memref sig .scVector .vmem S32x64 .f32)
variable (arg7 : Memref sig .scVector .vmem S32768 .f32)
variable (arg8 : Memref sig .scVector .vmem S32768 .f32) (harg8 : arg8.IsWhole) (arg9 : Memref sig .scVector .vmem S32768 .f32) (harg9 : arg9.IsWhole)
variable (arg10 arg11 r0 r1 : DmaSems sig S_)

/-- What the copy in of the tokens leaves. -/
theorem toks_of {tok : ℕ → ℕ → ℕ} (mi : S64x4x8x128.Idx → BitVec 32)
    (hI : ∀ y : S64x4x8x128.Idx, (mi y).toNat = tok (8 * (y 0).val + (y 2).val) (128 * (y 1).val + (y 3).val)) (f : Buf (Elt F) (arg5.view.loc (V dv (cc i) (ss i)))) :
    (arg5.view.loc (V dv (cc i) (ss i)) ↦[arg5.view.set]{fullShare} arg5.view.write (Elt F) f
        ((iV.slice (Rect.unit (s := S64x4x8x128) (k0_off1 i) S2x4x8x128.size (k0_off1_inb i)) (fun _ => rfl)).view.read (Elt F) mi) Finset.univ : sProp 𝕄)
      ⊢ Toks (F := F) dv (cc i) (ss i) arg5 (TKw i tok) := by
  unfold Toks
  iintro H
  iexists _
  isplitl [H]
  · iexact H
  · ipureintro
    intro y
    rw [View.read_write_univ, View.read_apply]
    refine (congrArg BitVec.toNat (cast_eq _ _)).trans ?_
    have e : ∀ a, (((iV.slice (Rect.unit (s := S64x4x8x128) (k0_off1 i) S2x4x8x128.size (k0_off1_inb i)) (fun _ => rfl)).view.emb y : S64x4x8x128.Idx) a).val = k0_off1 i a + (y a).val := fun a => by
      show k0_off1 i a + 1 * (y a).val = _
      omega
    rw [hI, e, e, e, e, k0_off1_eq]
    show tok (8 * (4 * (i 1).val + 2 * (i 0).val + (y 0).val) + (0 + (y 2).val)) (128 * (0 + (y 1).val) + (0 + (y 3).val)) = tok (row0 i + (8 * (y 0).val + (y 2).val)) (128 * (y 1).val + (y 3).val)
    unfold row0
    congr 1 <;> omega

/-- What the copy in of the table leaves. -/
theorem tab_of {c : Fin τ.nSC} {s : Fin τ.nSub} {tb : ℕ → ℕ → F .f32} (mt : S21x64.Idx → F .f32) (hM : ∀ y : S21x64.Idx, mt y = tb (y 0).val (y 1).val) (f : Buf (Elt F) (arg6.view.loc (V dv c s))) :
    (arg6.view.loc (V dv c s) ↦[arg6.view.set]{fullShare} (arg6.slice (Rect.unit (s := S32x64) ![0, 0] S21x64.size inb_S32x64_S21x64_0_0) (fun _ => rfl)).view.write (Elt F) f
        (tV.view.read (Elt F) mt) Finset.univ : sProp 𝕄) ⊢ Tab dv c s arg6 tb := by
  unfold Tab
  iintro H
  iexists _
  isplitl [H]
  · iexact H
  · ipureintro
    intro y hy
    have e : y = (Rect.unit (s := S32x64) ![0, 0] S21x64.size inb_S32x64_S21x64_0_0).emb (fun | 0 => (⟨(y 0).val, hy⟩ : Fin 21) | 1 => (⟨(y 1).val, (y 1).isLt⟩ : Fin 64) : S21x64.Idx) := by
      funext a
      match a with
      | 0 => exact Fin.ext (by show (y 0).val = 0 + 1 * (y 0).val; omega)
      | 1 => exact Fin.ext (by show (y 1).val = 0 + 1 * (y 1).val; omega)
    have h := View.read_slice_write_emb (v := arg6.view) (Val := Elt F) (Rect.unit (s := S32x64) ![0, 0] S21x64.size inb_S32x64_S21x64_0_0) f (tV.view.read (Elt F) mt)
      (Finset.mem_univ (fun | 0 => (⟨(y 0).val, hy⟩ : Fin 21) | 1 => (⟨(y 1).val, (y 1).isLt⟩ : Fin 64) : S21x64.Idx))
    rw [← e] at h
    refine h.trans ?_
    exact (View.read_apply _ _).trans ((cast_eq _ _).trans (hM _))

/-- The lanes of a scatter name different words; which words the kept ones name. -/
theorem lanes_first (k k' : Fin 16) (h : (iot (Shape.ofLane (d := ![16]) k)).toNat = (iot (Shape.ofLane (d := ![16]) k')).toNat) : k = k' := by
  rw [lane_iot, lane_iot] at h
  exact Fin.ext h
@[inherit_doc lanes_first] theorem lanes_second (k k' : Fin 16) (h : (iot' (Shape.ofLane (d := ![16]) k)).toNat = (iot' (Shape.ofLane (d := ![16]) k')).toNat) : k = k' := by
  rw [lane_iot', lane_iot'] at h
  exact Fin.ext (by omega)
@[inherit_doc lanes_first] theorem kept_first (n : ℕ) (_ : n < 21) :
    n < 16 ↔ ∃ k : Fin 16, (fun _ => 1#1 : IVec S16 1) (Shape.ofLane (d := ![16]) k) = 1 ∧ n = (iot (Shape.ofLane (d := ![16]) k)).toNat := by
  constructor
  · exact fun h => ⟨⟨n, h⟩, rfl, (lane_iot ⟨n, h⟩).symm⟩
  · rintro ⟨k, -, h⟩
    rw [lane_iot] at h
    exact h ▸ k.isLt
@[inherit_doc lanes_first] theorem kept_second (n : ℕ) (hn : n < 21) :
    16 ≤ n ↔ ∃ k : Fin 16, mask (Shape.ofLane (d := ![16]) k) = 1 ∧ n = (iot' (Shape.ofLane (d := ![16]) k)).toNat := by
  constructor
  · intro h
    have hk : n - 16 < 16 := by omega
    refine ⟨⟨n - 16, hk⟩, (lane_mask ⟨n - 16, hk⟩).mpr ?_, ((lane_iot' ⟨n - 16, hk⟩).trans ?_).symm⟩
    · show n - 16 + 16 < 21
      omega
    · show n - 16 + 16 = n
      omega
  · rintro ⟨k, -, h⟩
    rw [lane_iot'] at h
    omega

/-- A task. -/
theorem wp_fill {tok : ℕ → ℕ → ℕ} {tb : ℕ → ℕ → F .f32} (hT : ∀ a b, tok a b < 21) (mi : S64x4x8x128.Idx → BitVec 32)
    (hI : ∀ y : S64x4x8x128.Idx, (mi y).toNat = tok (8 * (y 0).val + (y 2).val) (128 * (y 1).val + (y 3).val))
    (mt : S21x64.Idx → F .f32) (hM : ∀ y : S21x64.Idx, mt y = tb (y 0).val (y 1).val)
    {O : CellTallies nD τ sig (HIx 1)} {W : Waits sig (HIx 1)} (q : PosShare TreeShare) {harg2 : tV.IsWhole}
    {f5 : Buf (Elt F) (arg5.view.loc (V dv (cc i) (ss i)))} {f6 : Buf (Elt F) (arg6.view.loc (V dv (cc i) (ss i)))} {f7 : Buf (Elt F) (arg7.view.loc (V dv (cc i) (ss i)))}
    {f8 : Buf (Elt F) (arg8.view.loc (V dv (cc i) (ss i)))} {f9 : Buf (Elt F) (arg9.view.loc (V dv (cc i) (ss i)))}
    (hN5 : 0 < arg5.view.dmaCredit) (hN6 : 0 < (arg6.slice (Rect.unit (s := S32x64) ![0, 0] S21x64.size inb_S32x64_S21x64_0_0) (fun _ => rfl)).view.dmaCredit) :
    iprop(Transfers.MayWaits (V dv (cc i) (ss i)) (default : HIx 1) O
        ∗ (iLoc dv ↦{q} (mi : Buf (Elt F) (iLoc dv))) ∗ (tLoc dv ↦{q} (mt : Buf (Elt F) (tLoc dv))) ∗ bigSep (Finset.Ico (row0 i) (row0 i + 16)) (RowOld (F := F) dv)
        ∗ (arg5.view.loc (V dv (cc i) (ss i)) ↦[arg5.view.set]{fullShare} f5) ∗ (arg6.view.loc (V dv (cc i) (ss i)) ↦[arg6.view.set]{fullShare} f6)
        ∗ (arg7.view.loc (V dv (cc i) (ss i)) ↦[arg7.view.set]{fullShare} f7) ∗ (arg8.view.loc (V dv (cc i) (ss i)) ↦[arg8.view.set]{fullShare} f8)
        ∗ (arg9.view.loc (V dv (cc i) (ss i)) ↦[arg9.view.set]{fullShare} f9)
        ∗ semVal (V dv (cc i) (ss i), .dma arg10.sem) 0 ∗ semVal (V dv (cc i) (ss i), .dma arg11.sem) 0 ∗ semVal (V dv (cc i) (ss i), .dma r0.sem) 0 ∗ semVal (V dv (cc i) (ss i), .dma r1.sem) 0
        ∗ Owes dv (cc i) (ss i) O W)
      ⊢ Wp dv (fill (F := F) i tV harg2 iV oV arg5 harg5 arg6 arg7 arg8 harg8 arg9 harg9 arg10 arg11 r0 r1) fun _ =>
        iprop((iLoc dv ↦{q} (mi : Buf (Elt F) (iLoc dv))) ∗ (tLoc dv ↦{q} (mt : Buf (Elt F) (tLoc dv))) ∗ bigSep (Finset.Ico (row0 i) (row0 i + 16)) (RowDone dv (RR (TB tb) tok))
        ∗ (∃ f, arg5.view.loc (V dv (cc i) (ss i)) ↦[arg5.view.set]{fullShare} f) ∗ (∃ f, arg6.view.loc (V dv (cc i) (ss i)) ↦[arg6.view.set]{fullShare} f)
        ∗ (∃ f, arg7.view.loc (V dv (cc i) (ss i)) ↦[arg7.view.set]{fullShare} f) ∗ (∃ f, arg8.view.loc (V dv (cc i) (ss i)) ↦[arg8.view.set]{fullShare} f)
        ∗ (∃ f, arg9.view.loc (V dv (cc i) (ss i)) ↦[arg9.view.set]{fullShare} f)
        ∗ semVal (V dv (cc i) (ss i), .dma arg10.sem) 0 ∗ semVal (V dv (cc i) (ss i), .dma arg11.sem) 0 ∗ semVal (V dv (cc i) (ss i), .dma r0.sem) 0 ∗ semVal (V dv (cc i) (ss i), .dma r1.sem) 0
        ∗ Owes dv (cc i) (ss i) O W) := by
  unfold fill
  iintro ⟨#Hmw, Hi, Ht, Hold, H5, H6, H7, H8, H9, Hs10, Hs11, Hr0, Hr1, HO⟩
  iapply (wp_fetch (F := F) (dv := dv) (c := cc i) (s := ss i) (src := iV.slice (Rect.unit (s := S64x4x8x128) (k0_off1 i) S2x4x8x128.size (k0_off1_inb i)) (fun _ => rfl)) (dst := arg5) (q := q) (fs := mi) (S := Finset.univ) (Sd := arg5.view.set) (fd := f5) (Finset.subset_univ _) (Finset.Subset.refl _) rfl hN5) $$ [Hi H5 Hr0 HO]
  · isplitr
    · iexact Hmw
    isplitl [Hi]
    · iexact Hi
    isplitl [H5]
    · iexact H5
    isplitl [Hr0]
    · iexact Hr0
    · iexact HO
  iintro ⟨Hi, H5, Hr0, HO⟩
  iapply (wp_fetch (F := F) (dv := dv) (c := cc i) (s := ss i) (src := tV) (dst := arg6.slice (Rect.unit (s := S32x64) ![0, 0] S21x64.size inb_S32x64_S21x64_0_0) (fun _ => rfl)) (q := q) (fs := mt) (S := Finset.univ) (Sd := arg6.view.set) (fd := f6) (Finset.subset_univ _) (View.set_slice_subset _ _) rfl hN6) $$ [Ht H6 Hr1 HO]
  · isplitr
    · iexact Hmw
    isplitl [Ht]
    · iexact Ht
    isplitl [H6]
    · iexact H6
    isplitl [Hr1]
    · iexact Hr1
    · iexact HO
  iintro ⟨Ht, H6, Hr1, HO⟩
  ihave H5 := (toks_of (F := F) i arg5 (tok := tok) mi hI f5) $$ H5
  ihave H6 := (tab_of (F := F) arg6 (tb := tb) mt hM f6) $$ H6
  iapply (wp_chk (F := F) chk1)
  iapply (wp_chk (F := F) chk2)
  iapply (wp_scatter (F := F) (P := fun n => n < 16) lanes_first kept_first) $$ H6
  iintro H6
  iapply (wp_scatter (F := F) (P := fun n => 16 ≤ n) lanes_second kept_second) $$ H6
  iintro H6
  ihave H7 := (On.intro (F := F) f7) $$ H7
  ihave H8 := (On.intro (F := F) f8) $$ H8
  ihave H9 := (On.intro (F := F) f9) $$ H9
  iapply (wp_trans (F := F) i arg6 arg7 (tb := TB tb)) $$ [H6 H7]
  · isplitl [H6]
    · iexact H6
    · iexact H7
  iintro %_ H6 H7
  iapply (wp_pairs (F := F) i arg5 arg7 arg8 harg8 arg9 harg9 arg10 arg11 (tok := tok) (tb := TB tb) hT (O := O) (W := W)) $$ [H5 H7 H8 H9 Hs10 Hs11 Hold HO]
  · unfold PairInv Slot
    isplitr
    · iexact Hmw
    isplitl [H5]
    · iexact H5
    isplitl [H7]
    · iexact H7
    isplitl [H8 Hs10]
    · isplitl [H8]
      · iexact H8
      · iexact Hs10
    isplitl [H9 Hs11]
    · isplitl [H9]
      · iexact H9
      · iexact Hs11
    isplitl [Hold]
    · iexact Hold
    isplitr
    · rw [show row0 i + 2 * (0 - 1) = row0 i by omega, Finset.Ico_self, bigSep_empty]
      iempintro
    · iexact HO
  iintro H5 H7 ⟨%_, H8⟩ ⟨%_, H9⟩ Hs10 Hs11 Hdone HO
  isplitl [Hi]
  · iexact Hi
  isplitl [Ht]
  · iexact Ht
  isplitl [Hdone]
  · iexact Hdone
  isplitl [H5]
  · iapply (Toks.elim (F := F)) $$ H5
  isplitl [H6]
  · iapply (Tab.elim (F := F)) $$ H6
  isplitl [H7]
  · iapply (On.elim (F := F)) $$ H7
  isplitl [H8]
  · iapply (On.elim (F := F)) $$ H8
  isplitl [H9]
  · iapply (On.elim (F := F)) $$ H9
  isplitl [Hs10]
  · iexact Hs10
  isplitl [Hs11]
  · iexact Hs11
  isplitl [Hr0]
  · iexact Hr0
  isplitl [Hr1]
  · iexact Hr1
  · iexact HO

end

end Cert.Proof.Fill
-- ==== Proof.Tile.lean ====
/-
  A task as the launch asks for it: what it is handed, the subcore's own buffers and semaphores, what it hands back.
-/
module

public import proofs.«01_k».proof.Proof.Task
public import Idealize.ShloMosaic.Lib.SparseCore.Ops

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

/-- The labels of the program's functions. -/
abbrev ΛP : Labels := Pipeline.Sig Λ₀ (Fin 0) fun p => (pcfgs (F := F) p).Adm
/-- The program's SparseCore configuration. -/
abbrev K : SparseCore.Cfg τ sig (ΛP (F := F)) 1 := sc (F := F)
/-- The program's functions. -/
abbrev D : Defs nD τ sig (Elt F) (ΛP (F := F)) := Pipeline.defs pcfgs defs₀
/-- The loops' variants. -/
abbrev 𝒱 : Variants := 𝒱₀.lift
/-- The variant that a thread starts with. -/
abbrev v₀ : 𝒱.V := Sum.inl none

omit [FloatOps F] in
/-- The configuration's semaphores are apart, and scoped as the launch asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory, and what the kernel is to compute from it -/

section
variable (m : (ℓ : Loc nD τ sig) → Buf (Elt F) ℓ)

/-- The tokens, as the host holds them. -/
abbrev aLoc (d : Dev nD) : Loc nD τ sig := (T d : Thread nD τ).loc main_arg0

/-- The token at row `a`, column `b`. -/
def tokens (d : Dev nD) (a b : ℕ) : ℕ :=
  (m (aLoc d) (fun | 0 => (⟨a % 512, Nat.mod_lt _ (by decide)⟩ : Fin 512) | 1 => (⟨b % 512, Nat.mod_lt _ (by decide)⟩ : Fin 512) : S512x512.Idx) : BitVec 32).toNat

/-- The word at row `v`, column `c` of the table. -/
def table (d : Dev nD) (v c : ℕ) : F .f32 :=
  m (tLoc d) (fun | 0 => (⟨v % 21, Nat.mod_lt _ (by decide)⟩ : Fin 21) | 1 => (⟨c % 64, Nat.mod_lt _ (by decide)⟩ : Fin 64) : S21x64.Idx)

/-- Every token names a row of the table. -/
def PreOK : Prop := ∀ (d : Dev nD) (j : S512x512.Idx), (m (aLoc d) j : BitVec 32).toNat < 21

variable {m} in
/-- Tokens in range are below 21. -/
theorem tokens_lt (h : PreOK m) (d : Dev nD) (a b : ℕ) : tokens m d a b < 21 := h d _

/-- The tokens as the host lays them out for the kernel. -/
def blocks (d : Dev nD) : S64x4x8x128.Idx → BitVec 32 :=
  transpose S64x4x8x128 [0, 2, 1, 3] (shapeCast S64x8x4x128 (m (aLoc d) : S512x512.Idx → BitVec 32) shapeCasts_S512x512_S64x8x4x128) transposes_S64x8x4x128_S64x4x8x128_0_2_1_3

/-- The tokens' blocks, at a place. -/
theorem blocks_apply (d : Dev nD) (y : S64x4x8x128.Idx) : (blocks m d y).toNat = tokens m d (8 * (y 0).val + (y 2).val) (128 * (y 1).val + (y 3).val) := by
  have h0 : (y 0).val < 64 := (y 0).isLt
  have h1 : (y 1).val < 4 := (y 1).isLt
  have h2 : (y 2).val < 8 := (y 2).isLt
  have h3 : (y 3).val < 128 := (y 3).isLt
  unfold blocks tokens
  refine congrArg BitVec.toNat ?_
  rw [transpose_apply _ _ _ y (fun | 0 => (⟨(y 0).val, h0⟩ : Fin 64) | 1 => (⟨(y 2).val, h2⟩ : Fin 8) | 2 => (⟨(y 1).val, h1⟩ : Fin 4) | 3 => (⟨(y 3).val, h3⟩ : Fin 128) : S64x8x4x128.Idx)
    (fun b => match b with | 0 => rfl | 1 => rfl | 2 => rfl | 3 => rfl)]
  refine shapeCast_apply _ _ _ _ ?_
  refine (Shape.rowMajor_val_two (d := ![512, 512]) _).trans (Eq.trans ?_ (Shape.rowMajor_val_four (d := ![64, 8, 4, 128]) _).symm)
  show (8 * (y 0).val + (y 2).val) % 512 * 512 + (128 * (y 1).val + (y 3).val) % 512 = (((y 0).val * 8 + (y 2).val) * 4 + (y 1).val) * 128 + (y 3).val
  omega

/-- The table, at a place. -/
theorem table_apply (d : Dev nD) (y : S21x64.Idx) : m (tLoc d) y = table m d (y 0).val (y 1).val := by
  unfold table
  refine congrArg (m (tLoc d)) (funext fun a => ?_)
  match a with
  | 0 => exact Fin.ext (Nat.mod_eq_of_lt (y 0).isLt).symm
  | 1 => exact Fin.ext (Nat.mod_eq_of_lt (y 1).isLt).symm

/-- What the kernel leaves at word `n` of row `r` of its output. -/
abbrev result (d : Dev nD) : ℕ → ℕ → F .f32 := RR (TB (table m d)) (tokens m d)

/-! ## What the handshakes carry -/

/-- The share of the tokens and of the table that the task on subcore `s` of core `c` reads by. -/
def wq (c s : ℕ) : PosShare TreeShare := pieceOf fullShare 32 (by decide) ⟨(c + 2 * s) % 32, Nat.mod_lt _ (by decide)⟩

/-- What a task is handed: its shares, and its sixteen rows of the output; and what it hands back. -/
def Go (d : Dev nD) (c s : ℕ) : sProp 𝕄 :=
  iprop((iLoc d ↦{wq c s} (blocks m d : Buf (Elt F) (iLoc d))) ∗ (tLoc d ↦{wq c s} m (tLoc d)) ∗ bigSep (Finset.Ico (32 * s + 16 * c) (32 * s + 16 * c + 16)) (RowOld (F := F) d))
@[inherit_doc Go] def Td (d : Dev nD) (c s : ℕ) : sProp 𝕄 :=
  iprop((iLoc d ↦{wq c s} (blocks m d : Buf (Elt F) (iLoc d))) ∗ (tLoc d ↦{wq c s} m (tLoc d)) ∗ bigSep (Finset.Ico (32 * s + 16 * c) (32 * s + 16 * c + 16)) (RowDone d (result m d)))

instance RowOld_storable (d : Dev nD) (n : ℕ) : BI.Storable (upEmb : UEmb _ 𝕄) (RowOld (F := F) d n) := by unfold RowOld; infer_instance
instance RowDone_storable (d : Dev nD) (G : ℕ → ℕ → F .f32) (n : ℕ) : BI.Storable (upEmb : UEmb _ 𝕄) (RowDone d G n) := by unfold RowDone; infer_instance
instance Go_storable (d : Dev nD) (c s : ℕ) : BI.Storable (upEmb : UEmb _ 𝕄) (Go m d c s) := by unfold Go; infer_instance
instance Td_storable (d : Dev nD) (c s : ℕ) : BI.Storable (upEmb : UEmb _ 𝕄) (Td m d c s) := by unfold Td; infer_instance

/-- The call: a core is handed what its sixteen tasks are. -/
def P : (K (F := F)).Pay (nD := nD) (Val := Elt F) (Name := ℕ) (U := UU) where
  st := fun q d c => match q with | 0 => bigSep Finset.univ fun s : Fin 16 => Go m d c.val s.val
  dn := fun q d c => match q with | 0 => bigSep Finset.univ fun s : Fin 16 => Td m d c.val s.val
  go := fun q d c s => match q with | 0 => Go m d c.val s.val
  td := fun q d c s => match q with | 0 => Td m d c.val s.val
  x := fun _ _ => iprop(emp)

instance P_storable : (P (F := F) m).IsStorable where
  st q d c := match q with | 0 => (inferInstance : BI.Storable (upEmb : UEmb _ 𝕄) (bigSep Finset.univ fun s : Fin 16 => Go m d c.val s.val))
  dn q d c := match q with | 0 => (inferInstance : BI.Storable (upEmb : UEmb _ 𝕄) (bigSep Finset.univ fun s : Fin 16 => Td m d c.val s.val))
  go q d c s := match q with | 0 => (inferInstance : BI.Storable (upEmb : UEmb _ 𝕄) (Go m d c.val s.val))
  td q d c s := match q with | 0 => (inferInstance : BI.Storable (upEmb : UEmb _ 𝕄) (Td m d c.val s.val))

/-- What a core is handed is what its sixteen subcores are handed, and likewise handed back. -/
theorem vecSplit : (K (F := F)).VecSplit' (P m) 0 := by
  intro d c
  show (bigSep Finset.univ fun s : Fin 16 => Go m d c.val s.val) ⊢ |={Set.univ}=> iprop((bigSep Finset.univ fun s : Fin 16 => Go m d c.val s.val)
    ∗ ((bigSep Finset.univ fun s : Fin 16 => Td m d c.val s.val) -∗ bigSep Finset.univ fun s : Fin 16 => Td m d c.val s.val))
  iintro H
  imodintro
  isplitl [H]
  · iexact H
  · iintro H
    iexact H

/-! ## The subcore's own buffers and semaphores -/

/-- A sum split at a part of its index set. -/
theorem bigSep_part {I : Type} [DecidableEq I] {t s : Finset I} (h : t ⊆ s) (Φ : I → sProp 𝕄) : bigSep s Φ = iprop(bigSep t Φ ∗ bigSep (s \ t) Φ) := by
  conv_lhs => rw [← Finset.union_sdiff_of_subset h]
  exact bigSep_union Finset.disjoint_sdiff

section
variable (d : Dev nD) (c : Fin τ.nSC) (s : Fin τ.nSub)

/-- The kernel's four transfer semaphores, and its five buffers, of a subcore. -/
def cells : Finset (GSem nD τ sig) :=
  ({cc0_scratch5.sem, cc0_scratch6.sem, cc0_scoped0.sem, cc0_scoped1.sem} : Finset (DmaSem sig)).map ⟨fun x => (V d c s, SemLoc.dma x), fun _ _ h => SemLoc.dma.inj (Prod.mk.inj h).2⟩
@[inherit_doc cells] def bufs : Finset (DevRef τ sig) :=
  ({cc0_scratch0, cc0_scratch1, cc0_scratch2, cc0_scratch3, cc0_scratch4} : Finset (Ref sig .scVector)).map ⟨(Proc.scVector c s : Proc τ).devRef, Proc.devRef_injective _⟩

/-- The semaphores that the kernel uses are the subcore's own. -/
theorem scoped_cells : ∀ x ∈ ({cc0_scratch5.sem, cc0_scratch6.sem, cc0_scoped0.sem, cc0_scoped1.sem} : Finset (DmaSem sig)), (SemLoc.dma x : SemLoc sig).isScoped .scVector = true := by decide

/-- The counters that the kernel uses are the subcore's own. -/
theorem cells_sub : cells d c s ⊆ ownCells (V d c s) := by
  intro g hg
  obtain ⟨x, hx, rfl⟩ := Finset.mem_map.mp hg
  exact mem_ownCells.mpr ⟨rfl, scoped_cells x hx⟩

/-- The buffers that the kernel uses are the subcore's own. -/
theorem bufs_sub : bufs c s ⊆ ownRefs (τ := τ) (Proc.scVector c s) := by
  intro g hg
  obtain ⟨x, hx, rfl⟩ := Finset.mem_map.mp hg
  simp only [Finset.mem_insert, Finset.mem_singleton] at hx
  rcases hx with rfl | rfl | rfl | rfl | rfl <;> exact SparseCore.Cfg.mem_ownRefs_of_owner rfl

/-- The subcore's own counters, those that the kernel uses first. -/
theorem ownSems0_eq : (ownSems0 (V d c s) : sProp 𝕄)
    = iprop((semVal (V d c s, .dma cc0_scratch5.sem) 0 ∗ semVal (V d c s, .dma cc0_scratch6.sem) 0 ∗ semVal (V d c s, .dma cc0_scoped0.sem) 0 ∗ semVal (V d c s, .dma cc0_scoped1.sem) 0)
      ∗ bigSep (ownCells (V d c s) \ cells d c s) fun g => semVal g 0) := by
  unfold SparseCore.Cfg.ownSems0
  rw [bigSep_part (cells_sub d c s)]
  congr 1
  unfold cells
  rw [bigSep_map, SparseCore.bigSep_insert' (by decide), SparseCore.bigSep_insert' (by decide), SparseCore.bigSep_insert' (by decide), bigSep_singleton]
  rfl

/-- The subcore's own buffers, those that the kernel uses first. -/
theorem ownBufs_eq : (ownBufs (V d c s) : sProp 𝕄)
    = iprop(((∃ f, (V d c s).loc cc0_scratch0 ↦{fullShare} f) ∗ (∃ f, (V d c s).loc cc0_scratch1 ↦{fullShare} f) ∗ (∃ f, (V d c s).loc cc0_scratch2 ↦{fullShare} f)
        ∗ (∃ f, (V d c s).loc cc0_scratch3 ↦{fullShare} f) ∗ (∃ f, (V d c s).loc cc0_scratch4 ↦{fullShare} f))
      ∗ bigSep (ownRefs (τ := τ) (Proc.scVector c s) \ bufs c s) fun b => iprop(∃ f, ((d, b) : Loc nD τ sig) ↦{fullShare} f)) := by
  unfold SparseCore.Cfg.ownBufs
  refine (bigSep_part (bufs_sub c s) _).trans ?_
  congr 1
  unfold bufs
  rw [bigSep_map, SparseCore.bigSep_insert' (show (cc0_scratch0 : Ref sig .scVector) ∉ ({cc0_scratch1, cc0_scratch2, cc0_scratch3, cc0_scratch4} : Finset (Ref sig .scVector)) by decide), SparseCore.bigSep_insert' (show (cc0_scratch1 : Ref sig .scVector) ∉ ({cc0_scratch2, cc0_scratch3, cc0_scratch4} : Finset (Ref sig .scVector)) by decide), SparseCore.bigSep_insert' (show (cc0_scratch2 : Ref sig .scVector) ∉ ({cc0_scratch3, cc0_scratch4} : Finset (Ref sig .scVector)) by decide), SparseCore.bigSep_insert' (show (cc0_scratch3 : Ref sig .scVector) ∉ ({cc0_scratch4} : Finset (Ref sig .scVector)) by decide), bigSep_singleton]
  rfl

end

/-! ## The task -/

/-- A task's coordinates in the kernel's grid. -/
def coordsV (c : Fin (grid0.bound 0)) (s : Fin (grid0.bound 1)) : grid0.Coords :=
  fun | 0 => c | 1 => s | ⟨_ + 2, h⟩ => absurd h (Nat.not_lt.2 (Nat.le_add_left _ _))

/-- The copy of the tokens carries some credit. -/
theorem credit5 : 0 < (Memref.whole cc0_scratch0 : Memref sig .scVector .vmem S2x4x8x128 .i32).view.dmaCredit := by decide +kernel
/-- The copy of the table carries some credit. -/
theorem credit6 : 0 < ((Memref.whole cc0_scratch1 : Memref sig .scVector .vmem S32x64 .f32).slice (Rect.unit (s := S32x64) ![0, 0] S21x64.size inb_S32x64_S21x64_0_0) (fun _ => rfl)).view.dmaCredit := by decide +kernel

set_option maxHeartbeats 1000000 in
/-- The task's triple as the launch asks for it. -/
theorem tile_body (hpre : PreOK m) (d : Dev nD) (i : grid0.Coords) (O : CellTallies nD τ sig (HIx 1)) (W : Waits sig (HIx 1)) (hO : ∀ g, O g none = 0) :
    iprop(levAts (K (F := F)).L (K (F := F)).lev ∗ emp ∗ Go m d (i 0).val (i 1).val
        ∗ scopedBufs (V d (cc i) (ss i)) ∗ scopedSems0 (V d (cc i) (ss i)) ∗ owes (V d (cc i) (ss i)) O W)
      ⊢ Wp d (cc0_sc_fill (F := F) i tV (Memref.isWhole_whole _) iV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scoped0 cc0_scoped1)
          fun _ => iprop(Td m d (i 0).val (i 1).val ∗ scopedBufs (V d (cc i) (ss i)) ∗ scopedSems0 (V d (cc i) (ss i))
            ∗ ∃ W', ⌜∀ p ∈ W', p ∈ W ∨ p.2 = none⌝ ∗ owes (V d (cc i) (ss i)) O W') := by
  rw [fill_eq, (K (F := F)).scopedBufs_V facts d (cc i) (ss i), SparseCore.Cfg.scopedSems0_V (Val := Elt F) d (cc i) (ss i), ownSems0_eq, ownBufs_eq]
  unfold Go Td
  iintro ⟨#Hlv, -, ⟨Hi, Ht, Hold⟩, ⟨⟨⟨%f5, H5⟩, ⟨%f6, H6⟩, ⟨%f7, H7⟩, ⟨%f8, H8⟩, %f9, H9⟩, Hbufs⟩, ⟨⟨Hs10, Hs11, Hr0, Hr1⟩, Hsems⟩, HO⟩
  ihave #Hmw := (show levAts (K (F := F)).L (K (F := F)).lev ⊢ Transfers.MayWaits (V d (cc i) (ss i)) (default : HIx 1) O from
    (K (F := F)).mayWaits_none (thr := V d (cc i) (ss i)) hO) $$ Hlv
  have h := wp_fill (F := F) (dv := d) i (Memref.whole cc0_scratch0) (Memref.isWhole_whole _) (Memref.whole cc0_scratch1) (Memref.whole cc0_scratch2) (Memref.whole cc0_scratch3) (Memref.isWhole_whole _)
    (Memref.whole cc0_scratch4) (Memref.isWhole_whole _) cc0_scratch5 cc0_scratch6 cc0_scoped0 cc0_scoped1 (tok := tokens m d) (tb := table m d) (tokens_lt hpre d) (blocks m d) (blocks_apply m d)
    (m (tLoc d)) (table_apply m d) (O := O) (W := W) (wq (i 0).val (i 1).val) (harg2 := Memref.isWhole_whole _) (f5 := f5) (f6 := f6) (f7 := f7) (f8 := f8) (f9 := f9) credit5 credit6
  have e5 : (Memref.whole cc0_scratch0 : Memref sig .scVector .vmem S2x4x8x128 .i32).view.set = Finset.univ := View.set_whole _
  have e6 : (Memref.whole cc0_scratch1 : Memref sig .scVector .vmem S32x64 .f32).view.set = Finset.univ := View.set_whole _
  have e7 : (Memref.whole cc0_scratch2 : Memref sig .scVector .vmem S32768 .f32).view.set = Finset.univ := View.set_whole _
  have e8 : (Memref.whole cc0_scratch3 : Memref sig .scVector .vmem S32768 .f32).view.set = Finset.univ := View.set_whole _
  have e9 : (Memref.whole cc0_scratch4 : Memref sig .scVector .vmem S32768 .f32).view.set = Finset.univ := View.set_whole _
  rw [e5, e6, e7, e8, e9] at h
  ihave H := h $$ [Hi Ht Hold H5 H6 H7 H8 H9 Hs10 Hs11 Hr0 Hr1 HO]
  · isplitr
    · iexact Hmw
    isplitl [Hi]; · iexact Hi
    isplitl [Ht]; · iexact Ht
    isplitl [Hold]; · iexact Hold
    isplitl [H5]; · iexact H5
    isplitl [H6]; · iexact H6
    isplitl [H7]; · iexact H7
    isplitl [H8]; · iexact H8
    isplitl [H9]; · iexact H9
    isplitl [Hs10]; · iexact Hs10
    isplitl [Hs11]; · iexact Hs11
    isplitl [Hr0]; · iexact Hr0
    isplitl [Hr1]; · iexact Hr1
    unfold Owes
    iexists W
    isplitr
    · ipureintro
      exact fun _ hq => .inl hq
    · iexact HO
  iapply (wp_wand_r frame _ _) $$ [H Hbufs Hsems]
  isplitl [H]
  · iexact H
  iintro %_ ⟨Hi, Ht, Hdone, H5, H6, H7, H8, H9, Hs10, Hs11, Hr0, Hr1, HO⟩
  isplitl [Hi Ht Hdone]
  · isplitl [Hi]; · iexact Hi
    isplitl [Ht]; · iexact Ht
    iexact Hdone
  isplitl [H5 H6 H7 H8 H9 Hbufs]
  · isplitl [H5 H6 H7 H8 H9]
    · isplitl [H5]; · iexact H5
      isplitl [H6]; · iexact H6
      isplitl [H7]; · iexact H7
      isplitl [H8]; · iexact H8
      iexact H9
    · iexact Hbufs
  isplitl [Hs10 Hs11 Hr0 Hr1 Hsems]
  · isplitl [Hs10 Hs11 Hr0 Hr1]
    · isplitl [Hs10]; · iexact Hs10
      isplitl [Hs11]; · iexact Hs11
      isplitl [Hr0]; · iexact Hr0
      iexact Hr1
    · iexact Hsems
  unfold Owes
  iexact HO

/-! ## The obligation of the launch theorem -/

/-- What a task's label runs is the kernel's function at the task's coordinates. -/
theorem defs₀_vector (c : Fin τ.nSC) (s : Fin τ.nSub) :
    defs₀ (F := F) (.scVector c s) 0 () = SparseCore.onTile hcore0 hsub0 (fun c s => cc0_sc_fill (F := F) (coordsV c s) tV (Memref.isWhole_whole _) iV (Memref.isWhole_whole _) oV (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scoped0 cc0_scoped1) ⟨⟩ c s := rfl

/-- What the kernel ends with is what the launch asks for. -/
theorem obl_post {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro
    exact fun p hp => (hW p hp).imp id .inl
  · iexact HO

set_option maxRecDepth 16384 in
/-- Every subcore's run of the kernel, from what it is handed to what it hands back. -/
theorem tileObl (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body m hpre d (coordsV ⟨_, hci.1⟩ ⟨_, hci.2⟩) O W hO).trans (wp_mono frame _ _ fun _ => obl_post)

end

end Cert.Proof.Fill
-- ==== Proof.Shares.lean ====
/-
  The tokens, the table and the output, cut into what the thirty-two tasks are handed, and put together again.
-/
module

public import proofs.«01_k».proof.Proof.Tile

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A whole buffer, cut into the shares that the tasks read by. -/
theorem shares (ℓ : Loc nD τ sig) (f : Buf (Elt F) ℓ) :
    (ℓ ↦{fullShare} f : sProp 𝕄) = bigSep Finset.univ fun c : Fin 2 => bigSep Finset.univ fun s : Fin 16 => ℓ ↦{wq c.val s.val} f := by
  rw [pointsTo_piecesOf Finset.univ f (by decide : 0 < 32) fullShare, bigSep_univ_equiv ((Equiv.prodComm (Fin 2) (Fin 16)).trans finProdFinEquiv : Fin 2 × Fin 16 ≃ Fin 32), bigSep_univ_prod]
  refine bigSep_congr fun c _ => bigSep_congr fun s _ => ?_
  have e : (((Equiv.prodComm (Fin 2) (Fin 16)).trans finProdFinEquiv : Fin 2 × Fin 16 ≃ Fin 32) (c, s)) = ⟨(c.val + 2 * s.val) % 32, Nat.mod_lt _ (by decide)⟩ :=
    Fin.ext (show c.val + 2 * s.val = (c.val + 2 * s.val) % 32 by have := c.isLt; have := s.isLt; omega)
  rw [e]
  rfl

/-- The 512 rows, sixteen by sixteen. -/
theorem rows_by_task (Φ : ℕ → sProp 𝕄) :
    bigSep (Finset.range 512) Φ = bigSep Finset.univ fun c : Fin 2 => bigSep Finset.univ fun s : Fin 16 => bigSep (Finset.Ico (32 * s.val + 16 * c.val) (32 * s.val + 16 * c.val + 16)) Φ := by
  rw [← bigSep_univ_prod (fun x : Fin 2 × Fin 16 => bigSep (Finset.Ico (32 * x.2.val + 16 * x.1.val) (32 * x.2.val + 16 * x.1.val + 16)) Φ)]
  have e : Finset.range 512 = Finset.univ.biUnion fun x : Fin 2 × Fin 16 => Finset.Ico (32 * x.2.val + 16 * x.1.val) (32 * x.2.val + 16 * x.1.val + 16) := by
    ext n
    simp only [Finset.mem_range, Finset.mem_biUnion, Finset.mem_univ, true_and, Finset.mem_Ico]
    constructor
    · intro h
      exact ⟨(⟨n / 16 % 2, by omega⟩, ⟨n / 32, by omega⟩), by show 32 * (n / 32) + 16 * (n / 16 % 2) ≤ n ∧ n < 32 * (n / 32) + 16 * (n / 16 % 2) + 16; omega⟩
    · rintro ⟨⟨c, s⟩, h⟩
      have := c.isLt
      have := s.isLt
      dsimp only at h
      omega
  rw [e]
  refine SparseCore.Cfg.bigSep_biUnion_eq _ _ _ ?_
  rintro ⟨c, s⟩ - ⟨c', s'⟩ - h
  refine Finset.disjoint_left.mpr fun n hn hn' => h ?_
  simp only [Finset.mem_Ico] at hn hn'
  have := c.isLt
  have := c'.isLt
  exact Prod.ext (Fin.ext (show c.val = c'.val by omega)) (Fin.ext (show s.val = s'.val by omega))

/-- The whole output, row by row. -/
theorem whole_rows (d : Dev nD) (f : Buf (Elt F) (oLoc d)) : (oLoc d ↦{fullShare} f : sProp 𝕄) = bigSep (Finset.range 512) fun n => oLoc d ↦[rowS n]{fullShare} f := by
  have e : (Finset.univ : Finset (Idx (oLoc d))) = (Finset.range 512).biUnion rowS := by
    ext j
    simp only [Finset.mem_univ, true_iff, Finset.mem_biUnion, Finset.mem_range]
    exact ⟨((j : S512x32768.Idx) 0).val, ((j : S512x32768.Idx) 0).isLt, Finset.mem_filter.mpr ⟨Finset.mem_univ _, rfl⟩⟩
  rw [e]
  refine pointsTo_biUnion (ℓ := oLoc d) (Finset.range 512) rowS fun n _ n' _ h => ?_
  exact Finset.disjoint_left.mpr fun j hj hj' => h ((Finset.mem_filter.mp hj).2.symm.trans (Finset.mem_filter.mp hj').2)

section
variable (m : (ℓ : Loc nD τ sig) → Buf (Elt F) ℓ) (d : Dev nD)

/-- A task's part of the tokens, the table and the output is what it is handed. -/
theorem to_task (f : Buf (Elt F) (oLoc d)) (c s : ℕ) :
    iprop((iLoc d ↦{wq c s} (blocks m d : Buf (Elt F) (iLoc d))) ∗ (tLoc d ↦{wq c s} m (tLoc d)) ∗ bigSep (Finset.Ico (32 * s + 16 * c) (32 * s + 16 * c + 16)) fun n => (oLoc d ↦[rowS n]{fullShare} f : sProp 𝕄))
      ⊢ Go m d c s := by
  unfold Go
  have h : ∀ n ∈ Finset.Ico (32 * s + 16 * c) (32 * s + 16 * c + 16), (oLoc d ↦[rowS n]{fullShare} f : sProp 𝕄) ⊢ RowOld d n := fun n _ => by
    unfold RowOld
    iintro H
    iexists f
    iexact H
  have hs : (bigSep (Finset.Ico (32 * s + 16 * c) (32 * s + 16 * c + 16)) fun n => (oLoc d ↦[rowS n]{fullShare} f : sProp 𝕄)) ⊢ bigSep (Finset.Ico (32 * s + 16 * c) (32 * s + 16 * c + 16)) (RowOld d) := bigSep_mono h
  iintro ⟨Hi, Ht, Ho⟩
  isplitl [Hi]; · iexact Hi
  isplitl [Ht]; · iexact Ht
  iapply hs $$ Ho

/-- What the tasks are handed is the tokens, the table and the output; -/
theorem handed (f : Buf (Elt F) (oLoc d)) :
    iprop((iLoc d ↦{fullShare} (blocks m d : Buf (Elt F) (iLoc d))) ∗ (tLoc d ↦{fullShare} m (tLoc d)) ∗ (oLoc d ↦{fullShare} f))
      ⊢ (bigSep Finset.univ fun c : Fin 2 => bigSep Finset.univ fun s : Fin 16 => Go m d c.val s.val : sProp 𝕄) := by
  rw [shares, shares (tLoc d), whole_rows, rows_by_task, ← bigSep_sep', ← bigSep_sep']
  refine bigSep_mono fun c _ => ?_
  rw [← bigSep_sep', ← bigSep_sep']
  refine bigSep_mono fun s _ => ?_
  exact to_task m d f c.val s.val

/-- and what they hand back is the tokens, the table and the output, the last holding what the kernel computes. -/
theorem handed_back :
    (bigSep Finset.univ fun c : Fin 2 => bigSep Finset.univ fun s : Fin 16 => Td m d c.val s.val : sProp 𝕄)
      = iprop((iLoc d ↦{fullShare} (blocks m d : Buf (Elt F) (iLoc d))) ∗ (tLoc d ↦{fullShare} m (tLoc d)) ∗ (oLoc d ↦{fullShare} (OUT (result m d) : Buf (Elt F) (oLoc d)))) := by
  rw [shares, shares (tLoc d), whole_rows, rows_by_task, ← bigSep_sep', ← bigSep_sep']
  refine bigSep_congr fun c _ => ?_
  rw [← bigSep_sep', ← bigSep_sep']
  rfl

end

end Cert.Proof.Fill
-- ==== Proof.Launch.lean ====
/-
  The host's program around the kernel, and the program's run.
-/
module

public import proofs.«01_k».proof.Proof.Shares
public import Idealize.ShloMosaic.Lib.StableHlo.Run

@[expose] public section

noncomputable section

namespace Cert.Proof.Fill

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type} [FloatOps F]

local notation "𝕄" => MT nD τ sig (HIx 1) (Elt F) ℕ UU ℕ

/-! ## The host's operations -/

/-- The host's buffers. -/
abbrev arg0' : DevRef τ sig := Proc.devRef .tc (main_arg0 : Ref sig .tc)
@[inherit_doc arg0'] abbrev arg1' : DevRef τ sig := Proc.devRef .tc (main_arg1 : Ref sig .tc)
@[inherit_doc arg0'] abbrev v0' : DevRef τ sig := Proc.devRef .tc (main_v0 : Ref sig .tc)
@[inherit_doc arg0'] abbrev v1' : DevRef τ sig := Proc.devRef .tc (main_v1 : Ref sig .tc)
@[inherit_doc arg0'] abbrev v2' : DevRef τ sig := Proc.devRef .tc (main_v2 : Ref sig .tc)
@[inherit_doc arg0'] abbrev v3' : DevRef τ sig := Proc.devRef .tc (main_v3 : Ref sig .tc)
@[inherit_doc arg0'] abbrev v4' : DevRef τ sig := Proc.devRef .tc (main_v4 : Ref sig .tc)
@[inherit_doc arg0'] abbrev v5' : DevRef τ sig := Proc.devRef .tc (main_v5 : Ref sig .tc)

/-- The host's operations: the tokens laid out for the kernel, and the output read back. -/
abbrev opR1 : HloOp τ sig (Elt F) := StableHlo.reshape main_arg0 main_v0 (rfl : (.i32 : EltTy) = .i32) shapeCasts_S512x512_S64x8x4x128
@[inherit_doc opR1] abbrev opT1 : HloOp τ sig (Elt F) := StableHlo.unary main_v0 main_v1 ((transpose S64x4x8x128 [0, 2, 1, 3] · transposes_S64x8x4x128_S64x4x8x128_0_2_1_3) : (⟨S64x8x4x128, .i32⟩ : BufTy).Contents (Elt F) → (⟨S64x4x8x128, .i32⟩ : BufTy).Contents (Elt F))
@[inherit_doc opR1] abbrev opR2 : HloOp τ sig (Elt F) := StableHlo.reshape main_v2 main_v3 (rfl : (.f32 : EltTy) = .f32) shapeCasts_S512x32768_S512x8x4x8x128
@[inherit_doc opR1] abbrev opT2 : HloOp τ sig (Elt F) := StableHlo.unary main_v3 main_v4 ((transpose S512x4x128x8x8 [0, 2, 4, 1, 3] · transposes_S512x8x4x8x128_S512x4x128x8x8_0_2_4_1_3) : (⟨S512x8x4x8x128, .f32⟩ : BufTy).Contents (Elt F) → (⟨S512x4x128x8x8, .f32⟩ : BufTy).Contents (Elt F))
@[inherit_doc opR1] abbrev opR3 : HloOp τ sig (Elt F) := StableHlo.reshape main_v4 main_v5 (rfl : (.f32 : EltTy) = .f32) shapeCasts_S512x4x128x8x8_S512x512x64

/-- The main program's eight arrays. -/
abbrev S8 : Finset (DevRef τ sig) := {arg0', arg1', v0', v1', v2', v3', v4', v5'}
/-- The buffers that the kernel is handed. -/
abbrev S3 : Finset (DevRef τ sig) := {arg1', v1', v2'}
/-- The buffers that the claim reads. -/
abbrev S3' : Finset (DevRef τ sig) := {arg0', arg1', v5'}

section
variable (m : (ℓ : Loc nD τ sig) → Buf (Elt F) ℓ) (ρ : Dev nD → PrngReg)

/-- The arrays that the main program starts with are these eight. -/
theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1) ∗ ((T d : Thread nD τ).loc main_v0 ↦{fullShare} W main_v0) ∗ ((T d : Thread nD τ).loc main_v1 ↦{fullShare} W main_v1) ∗ ((T d : Thread nD τ).loc main_v2 ↦{fullShare} W main_v2) ∗ ((T d : Thread nD τ).loc main_v3 ↦{fullShare} W main_v3) ∗ ((T d : Thread nD τ).loc main_v4 ↦{fullShare} W main_v4) ∗ ((T d : Thread nD τ).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The eight arrays, one by one. -/
theorem held_eq (d : Dev nD) (W : Valuation τ sig (Elt F)) :
    (held (T d) S8 W : sProp 𝕄) = iprop(((T d : Thread nD τ).loc main_arg0 ↦{fullShare} W arg0') ∗ ((T d : Thread nD τ).loc main_arg1 ↦{fullShare} W arg1') ∗ ((T d : Thread nD τ).loc main_v0 ↦{fullShare} W v0') ∗ ((T d : Thread nD τ).loc main_v1 ↦{fullShare} W v1') ∗ ((T d : Thread nD τ).loc main_v2 ↦{fullShare} W v2') ∗ ((T d : Thread nD τ).loc main_v3 ↦{fullShare} W v3') ∗ ((T d : Thread nD τ).loc main_v4 ↦{fullShare} W v4') ∗ ((T d : Thread nD τ).loc main_v5 ↦{fullShare} W v5')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers at the launch; when the kernel starts; when it has ended; at the end. -/
def V0 (d : Dev nD) : Valuation τ sig (Elt F) := fun b => m (d, b)
@[inherit_doc V0] def V2 (d : Dev nD) : Valuation τ sig (Elt F) := opT1.result (opR1.result (V0 m d))
@[inherit_doc V0] def V3 (d : Dev nD) : Valuation τ sig (Elt F) := Function.update (V2 m d) v2' (OUT (result m d))
@[inherit_doc V0] def V6 (d : Dev nD) : Valuation τ sig (Elt F) := opR3.result (opT2.result (opR2.result (V3 m d)))

/-- At the start the main program holds the eight arrays at the memory's contents. -/
theorem unscoped_held (d : Dev nD) : (unscopedBufs d (fun b => m ((SparseCore.T d).loc b)) : sProp 𝕄) = held (T d) S8 (V0 m d) := by
  rw [unscopedBufs_eq, held_eq]
  rfl

/-- The result's place, and the result: the output, read back. -/
abbrev rLoc (d : Dev nD) : Loc nD τ sig := (T d : Thread nD τ).loc main_v5
@[inherit_doc rLoc] def RES (d : Dev nD) : S512x512x64.Idx → F .f32 :=
  shapeCast S512x512x64 (transpose S512x4x128x8x8 [0, 2, 4, 1, 3] (shapeCast S512x8x4x8x128 (OUT (result m d)) shapeCasts_S512x32768_S512x8x4x8x128) transposes_S512x8x4x8x128_S512x4x128x8x8_0_2_4_1_3) shapeCasts_S512x4x128x8x8_S512x512x64

/-- Before the call the tokens are as they were. -/
theorem V2_arg0 (d : Dev nD) : V2 m d arg0' = m (aLoc d) := by
  unfold V2
  rw [StableHlo.unary_result_ne (h := show (main_arg0 : Ref sig .tc) ≠ main_v1 by decide), StableHlo.reshape_result_ne (h := show (main_arg0 : Ref sig .tc) ≠ main_v0 by decide)]
  rfl
/-- Before the call the table is as it was. -/
theorem V2_arg1 (d : Dev nD) : V2 m d arg1' = m (tLoc d) := by
  unfold V2
  rw [StableHlo.unary_result_ne (h := show (main_arg1 : Ref sig .tc) ≠ main_v1 by decide), StableHlo.reshape_result_ne (h := show (main_arg1 : Ref sig .tc) ≠ main_v0 by decide)]
  rfl
/-- Before the call the tokens' blocks hold the tokens rearranged. -/
theorem V2_v1 (d : Dev nD) : V2 m d v1' = (blocks m d : Buf (Elt F) (iLoc d)) := by
  unfold V2
  rw [StableHlo.unary_result, StableHlo.reshape_result]
  rfl

/-- The call changes no array but its output. -/
theorem V3_of_ne (d : Dev nD) {b : DevRef τ sig} (h : b ≠ v2') : V3 m d b = V2 m d b := Function.update_of_ne h _ _
/-- After the call its output holds the result's rows. -/
theorem V3_v2 (d : Dev nD) : V3 m d v2' = (OUT (result m d) : Buf (Elt F) (oLoc d)) := Function.update_self _ _ _

/-- At the end the tokens are as they were. -/
theorem V6_arg0 (d : Dev nD) : V6 m d arg0' = m (aLoc d) := by
  unfold V6
  rw [StableHlo.reshape_result_ne (h := show (main_arg0 : Ref sig .tc) ≠ main_v5 by decide), StableHlo.unary_result_ne (h := show (main_arg0 : Ref sig .tc) ≠ main_v4 by decide),
    StableHlo.reshape_result_ne (h := show (main_arg0 : Ref sig .tc) ≠ main_v3 by decide), V3_of_ne m d (by decide), V2_arg0]
/-- At the end the table is as it was. -/
theorem V6_arg1 (d : Dev nD) : V6 m d arg1' = m (tLoc d) := by
  unfold V6
  rw [StableHlo.reshape_result_ne (h := show (main_arg1 : Ref sig .tc) ≠ main_v5 by decide), StableHlo.unary_result_ne (h := show (main_arg1 : Ref sig .tc) ≠ main_v4 by decide),
    StableHlo.reshape_result_ne (h := show (main_arg1 : Ref sig .tc) ≠ main_v3 by decide), V3_of_ne m d (by decide), V2_arg1]
/-- At the end the result array holds the rearranged rows. -/
theorem V6_v5 (d : Dev nD) : V6 m d v5' = (RES m d : Buf (Elt F) (rLoc d)) := by
  unfold V6
  rw [StableHlo.reshape_result, StableHlo.unary_result, StableHlo.reshape_result, V3_v2]
  rfl

/-- The kernel's buffers apart from the rest, before the call and after it. -/
theorem held_call (d : Dev nD) : (held (T d) S8 (V2 m d) : sProp 𝕄)
    = iprop(((tLoc d ↦{fullShare} m (tLoc d)) ∗ (iLoc d ↦{fullShare} (blocks m d : Buf (Elt F) (iLoc d))) ∗ (oLoc d ↦{fullShare} V2 m d v2')) ∗ held (T d) (S8 \ S3) (V2 m d)) := by
  rw [held_sub_split (T d) (show S3 ⊆ S8 by decide)]
  congr 1
  unfold held S3
  rw [SparseCore.bigSep_insert' (by decide), SparseCore.bigSep_insert' (by decide), bigSep_singleton, V2_arg1, V2_v1]
@[inherit_doc held_call] theorem held_return (d : Dev nD) : (held (T d) S8 (V3 m d) : sProp 𝕄)
    = iprop(((tLoc d ↦{fullShare} m (tLoc d)) ∗ (iLoc d ↦{fullShare} (blocks m d : Buf (Elt F) (iLoc d))) ∗ (oLoc d ↦{fullShare} (OUT (result m d) : Buf (Elt F) (oLoc d)))) ∗ held (T d) (S8 \ S3) (V2 m d)) := by
  rw [held_sub_split (T d) (show S3 ⊆ S8 by decide), held_congr (T d) (S := S8 \ S3) (V := V3 m d) (V' := V2 m d) fun b hb => V3_of_ne m d (by rintro rfl; revert hb; decide)]
  congr 1
  unfold held S3
  rw [SparseCore.bigSep_insert' (by decide), SparseCore.bigSep_insert' (by decide), bigSep_singleton, V3_of_ne m d (by decide), V3_of_ne m d (by decide), V3_v2, V2_arg1, V2_v1]

/-- What @main leaves the claim: the arguments as they were, and the result. -/
def FIN (d : Dev nD) : sProp 𝕄 := iprop((aLoc d ↦{fullShare} m (aLoc d)) ∗ (tLoc d ↦{fullShare} m (tLoc d)) ∗ (rLoc d ↦{fullShare} (RES m d : Buf (Elt F) (rLoc d))))

/-- What is held at the end, the arguments and the result first. -/
theorem held_end (d : Dev nD) : (held (T d) S8 (V6 m d) : sProp 𝕄) = iprop(FIN m d ∗ held (T d) (S8 \ S3') (V6 m d)) := by
  rw [held_sub_split (T d) (show S3' ⊆ S8 by decide)]
  congr 1
  unfold held S3' FIN
  rw [SparseCore.bigSep_insert' (by decide), SparseCore.bigSep_insert' (by decide), bigSep_singleton, V6_arg0, V6_arg1, V6_v5]

/-- What the call hands out, core by core and subcore by subcore. -/
theorem st0_eq (d : Dev nD) : (bigSep Finset.univ fun c : Fin ((K (F := F)).nCore 0) => (P m).st 0 d c) = bigSep Finset.univ fun c : Fin 2 => bigSep Finset.univ fun s : Fin 16 => Go m d c.val s.val := rfl
/-- What the call is handed back, core by core and subcore by subcore. -/
theorem dn0_eq (d : Dev nD) : (bigSep Finset.univ fun c : Fin ((K (F := F)).nCore 0) => (P m).dn 0 d c) = bigSep Finset.univ fun c : Fin 2 => bigSep Finset.univ fun s : Fin 16 => Td m d c.val s.val := rfl

/-- The first reshape's arrays are among the eight. -/
theorem hR1 : (opR1 (F := F)).bufs ⊆ S8 := show ({arg0', v0'} : Finset (DevRef τ sig)) ⊆ S8 by decide
/-- The first transpose's arrays are among the eight. -/
theorem hT1 : (opT1 (F := F)).bufs ⊆ S8 := show ({v0', v1'} : Finset (DevRef τ sig)) ⊆ S8 by decide
/-- The second reshape's arrays are among the eight. -/
theorem hR2 : (opR2 (F := F)).bufs ⊆ S8 := show ({v2', v3'} : Finset (DevRef τ sig)) ⊆ S8 by decide
/-- The second transpose's arrays are among the eight. -/
theorem hT2 : (opT2 (F := F)).bufs ⊆ S8 := show ({v3', v4'} : Finset (DevRef τ sig)) ⊆ S8 by decide
/-- The last reshape's arrays are among the eight. -/
theorem hR3 : (opR3 (F := F)).bufs ⊆ S8 := show ({v4', v5'} : Finset (DevRef τ sig)) ⊆ S8 by decide

/-- @main on a device's host core: the tokens laid out, the call, the output read back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR1) (S := S8) hR1 (V := V0 m d)) $$ [Hb Hheld]
  · isplitl [Hb] <;> iassumption
  iintro ⟨Hb, Hheld⟩
  rw [wp_ret]; imodintro
  iapply (wp_hlo_within 𝒱 (SparseCore.T d) none Set.univ (op := opT1) (S := S8) hT1 (V := opR1.result (V0 m d))) $$ [Hb Hheld]
  · isplitl [Hb] <;> iassumption
  iintro ⟨Hb, Hheld⟩
  rw [wp_ret]; imodintro
  ihave Hh := (show (held (T d) S8 (opT1.result (opR1.result (V0 m d))) : sProp 𝕄) ⊢ _ from Entails.of_eq (held_call m d)) $$ Hheld
  icases Hh with ⟨⟨Ht, Hi, Ho⟩, Hrest⟩
  iapply ((K (F := F)).wp_run (D (F := F)) 𝒱 (EH := EH) (P := P m) κ d 0) $$ [Hst Hi Ht Ho Hb Hts Hrest]
  isplitr; · iexact Hctx
  isplitl [Hst]; · iexact Hst
  isplitl [Hi Ht Ho]
  · rw [st0_eq]
    iapply (handed m d (V2 m d v2')) $$ [Hi Ht Ho]
    isplitl [Hi]; · iexact Hi
    isplitl [Ht]; · iexact Ht
    iexact Ho
  iintro ⟨Hst, Hdn⟩
  ihave Hdn' := (Entails.of_eq ((dn0_eq m d).trans (handed_back m d))) $$ Hdn
  icases Hdn' with ⟨Hi, Ht, Ho⟩
  iapply (wp_hlo_within 𝒱 (SparseCore.T d) none Set.univ (op := opR2) (S := S8) hR2 (V := V3 m d)) $$ [Hb Hi Ht Ho Hrest]
  · isplitl [Hb]; · iexact Hb
    rw [held_return]
    isplitr [Hrest]
    · isplitl [Ht]; · iexact Ht
      isplitl [Hi]; · iexact Hi
      iexact Ho
    · iexact Hrest
  iintro ⟨Hb, Hheld⟩
  rw [wp_ret]; imodintro
  iapply (wp_hlo_within 𝒱 (SparseCore.T d) none Set.univ (op := opT2) (S := S8) hT2 (V := opR2.result (V3 m d))) $$ [Hb Hheld]
  · isplitl [Hb] <;> iassumption
  iintro ⟨Hb, Hheld⟩
  rw [wp_ret]; imodintro
  iapply (wp_hlo_within 𝒱 (SparseCore.T d) none Set.univ (op := opR3) (S := S8) hR3 (V := opT2.result (opR2.result (V3 m d)))) $$ [Hb Hheld]
  · isplitl [Hb] <;> iassumption
  iintro ⟨Hb, Hheld⟩
  ihave Hh := (show (held (T d) S8 (opR3.result (opT2.result (opR2.result (V3 m d)))) : sProp 𝕄) ⊢ _ from Entails.of_eq (held_end m d)) $$ Hheld
  icases Hh with ⟨HF, -⟩
  rw [wp_ret]; imodintro; imodintro
  isplitl [Hst]; · iexact Hst
  isplitl [HF]; · iexact HF
  isplitl [Hb] <;> iassumption

/-! ## The program's run -/

/-- The ghost state that the launch starts from. -/
def u₀ : UU := (initOf (K (F := F)).hsCells (K (F := F)).hsToks, 1)

/-- It gives the handshakes' ghost state, and nothing for the devices and the threads beside it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  have e : ∀ {I : Type} (s : Finset I), (bigSep s fun _ => iprop(emp)) = (iprop(emp) : sProp 𝕄) := fun s => bigSep_emp_const s
  isplitr
  · rw [e]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), e]
  iempintro

/-- What the last memory holds on a device. -/
def fq (d : Dev nD) (s' : Phys nD τ sig (Elt F)) : Prop :=
  s'.mem.mem (aLoc d) = m (aLoc d) ∧ s'.mem.mem (tLoc d) = m (tLoc d) ∧ s'.mem.mem (rLoc d) = (RES m d : Buf (Elt F) (rLoc d))

set_option maxRecDepth 16384 in
/-- What is held at the end fixes the final memory. -/
theorem hfin (d : Dev nD) (s' : Phys nD τ sig (Elt F)) : iprop(FIN m d ∗ SI s') ⊢ (⌜fq m d s'⌝ : sProp 𝕄) := by
  unfold FIN
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := (RES m d : Buf (Elt F) (rLoc d)))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the program's run ends in: the arguments as they were, the result, every counter at zero. -/
def QC : PUnit × MemSt nD τ sig (Elt F) → Prop := fun r =>
  (∀ c : Dev nD, r.2.mem (aLoc c) = m (aLoc c) ∧ r.2.mem (tLoc c) = m (tLoc c) ∧ r.2.mem (rLoc c) = (RES m c : Buf (Elt F) (rLoc c))) ∧ r.2.sem = fun _ => 0

/-- The program runs, from any memory whose tokens name rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end

end Cert.Proof.Fill
-- ==== Proof.Result.lean ====
/-
  The output read back: what the program's result holds at a place.
-/
module

public import proofs.«01_k».proof.Proof.Launch
public import Idealize.ShloMosaic.Lib.Pipeline.Value

@[expose] public section

noncomputable section

namespace Cert.Proof.Fill

open Cert.KernelIdeal Cert.KernelIdeal.Gen
open Idealize.ShloMosaic

variable {F : FTy → Type} [FloatOps F]

/-- Word `n` of row `a` of the output, read back, is the result's at the token and the column that `n` stands for. -/
theorem RES_apply (m : (ℓ : Loc nD τ sig) → Buf (Elt F) ℓ) (d : Dev nD) (j : S512x512x64.Idx) :
    RES m d j = TB (table m d) (tokens m d (j 0).val (j 1).val) (j 2).val := by
  have h0 : (j 0).val < 512 := (j 0).isLt
  have h1 : (j 1).val < 512 := (j 1).isLt
  have h2 : (j 2).val < 64 := (j 2).isLt
  generalize ha : (j 0).val = a at *
  generalize hb : (j 1).val = b at *
  generalize hc : (j 2).val = c at *
  unfold RES
  rw [shapeCast_apply _ _ j (fun | 0 => (⟨a, h0⟩ : Fin 512) | 1 => (⟨b / 128, by omega⟩ : Fin 4) | 2 => (⟨b % 128, by omega⟩ : Fin 128) | 3 => (⟨c / 8, by omega⟩ : Fin 8) | 4 => (⟨c % 8, by omega⟩ : Fin 8) : S512x4x128x8x8.Idx) ?_,
    transpose_apply _ _ _ _ (fun | 0 => (⟨a, h0⟩ : Fin 512) | 1 => (⟨c / 8, by omega⟩ : Fin 8) | 2 => (⟨b / 128, by omega⟩ : Fin 4) | 3 => (⟨c % 8, by omega⟩ : Fin 8) | 4 => (⟨b % 128, by omega⟩ : Fin 128) : S512x8x4x8x128.Idx) ?_,
    shapeCast_apply _ _ _ (fun | 0 => (⟨a, h0⟩ : Fin 512) | 1 => (⟨((c / 8 * 4 + b / 128) * 8 + c % 8) * 128 + b % 128, by omega⟩ : Fin 32768) : S512x32768.Idx) ?_]
  · show TB (table m d) (tokens m d a ((((c / 8 * 4 + b / 128) * 8 + c % 8) * 128 + b % 128) / 1024 % 4 * 128 + (((c / 8 * 4 + b / 128) * 8 + c % 8) * 128 + b % 128) % 128))
      ((((c / 8 * 4 + b / 128) * 8 + c % 8) * 128 + b % 128) / 4096 * 8 + (((c / 8 * 4 + b / 128) * 8 + c % 8) * 128 + b % 128) % 1024 / 128) = _
    rw [show (((c / 8 * 4 + b / 128) * 8 + c % 8) * 128 + b % 128) / 1024 % 4 * 128 + (((c / 8 * 4 + b / 128) * 8 + c % 8) * 128 + b % 128) % 128 = b by omega,
      show (((c / 8 * 4 + b / 128) * 8 + c % 8) * 128 + b % 128) / 4096 * 8 + (((c / 8 * 4 + b / 128) * 8 + c % 8) * 128 + b % 128) % 1024 / 128 = c by omega]
  · refine (Shape.rowMajor_val_two (d := ![512, 32768]) _).trans (Eq.trans ?_ (Shape.rowMajor_val_five (d := ![512, 8, 4, 8, 128]) _).symm)
    show a * 32768 + (((c / 8 * 4 + b / 128) * 8 + c % 8) * 128 + b % 128) = (((a * 8 + c / 8) * 4 + b / 128) * 8 + c % 8) * 128 + b % 128
    omega
  · intro k
    match k with | 0 => rfl | 1 => rfl | 2 => rfl | 3 => rfl | 4 => rfl
  · refine (Shape.rowMajor_val_five (d := ![512, 4, 128, 8, 8]) _).trans (Eq.trans ?_ (Shape.rowMajor_val_three (d := ![512, 512, 64]) _).symm)
    show (((a * 4 + b / 128) * 128 + b % 128) * 8 + c / 8) * 8 + c % 8 = ((j 0).val * 512 + (j 1).val) * 64 + (j 2).val
    omega

end Cert.Proof.Fill
-- ==== Proof.Reference.lean ====
/-
  The reference over the reals: what its result holds at a place.
-/
module

public import proofs.«01_k».proof.Proof.Gen.ReferenceIdeal.Run
public import Idealize.ShloMosaic.Lib.Pipeline.Value
public import Idealize.ShloMosaic.PureOps.Ideal

@[expose] public section

noncomputable section

namespace Cert.Proof.Ref

open Cert.ReferenceIdeal Cert.ReferenceIdeal.Gen
open Idealize.ShloMosaic

variable (tok : IVec S512x512 32) (tbl : FVec Ideal S21x64 .f32)

/-- The row numbers that the lookup takes: a negative one counts from the table's end. -/
def wrapped : IVec S512x512 32 :=
  select (cmpi .slt tok (broadcastInDim S512x512 ![] bcast_S_S512x512 (constantI S_ 32 0#32))) (addi tok (broadcastInDim S512x512 ![] bcast_S_S512x512 (constantI S_ 32 21#32))) tok
/-- The same, with an axis for the gather. -/
def starts : IVec S512x512x1 32 := broadcastInDim S512x512x1 ![0, 1] bcast_S512x512_S512x512x1_0_1 (wrapped tok)
/-- Whether a row number is one of the table's. -/
def inRows : IVec S512x512x1 1 :=
  andi (cmpi .sge (starts tok) (broadcastInDim S512x512x1 ![] bcast_S_S512x512x1 (constantI S_ 32 0#32)))
    (cmpi .sle (starts tok) (broadcastInDim S512x512x1 ![0, 1, 2] bcast_S1x1x1_S512x512x1_0_1_2 (broadcastInDim S1x1x1 ![2] bcast_S1_S1x1x1_2 (constantI S1 32 20#32))))
/-- The rows looked up. -/
def taken : FVec Ideal S512x512x64 .f32 :=
  select (broadcastInDim S512x512x64 ![0, 1] bcast_S512x512_S512x512x64_0_1 (Host.reduce IntOp.andi (inRows tok) (constantI S_ 1 1#1) reducesTo_S512x512x1_S512x512_d2 h_S_))
    (Host.gather gather_S21x64_S512x512x1_S512x512x64_2_0_n_n_0_2_164 tbl (starts tok)) (broadcastInDim S512x512x64 ![] bcast_S_S512x512x64 (constant S_ .f32 0x7FC00000#32))
/-- The tokens' one-hot vectors. -/
def oneHot : FVec Ideal S512x512x64 .f32 :=
  uitofp .f32 (cmpi .eq (broadcastInDim S512x512x64 ![0, 1, 2] bcast_S512x512x1_S512x512x64_0_1_2 (broadcastInDim S512x512x1 ![0, 1] bcast_S512x512_S512x512x1_0_1 tok))
    (broadcastInDim S512x512x64 ![0, 1, 2] bcast_S1x1x64_S512x512x64_0_1_2 (iotaInDim S1x1x64 32 2)))
/-- The reference's result. -/
def value : FVec Ideal S512x512x64 .f32 := addf (taken tok tbl) (oneHot tok)

/-- The place of a token. -/
def at2 (j : S512x512x64.Idx) : S512x512.Idx := fun | 0 => j 0 | 1 => j 1

/-- Where the condition is 1, a selection is its first array's. -/
theorem select_one {s : Shape} {α : Type} (c : IVec s 1) (a b : s.Idx → α) (j : s.Idx) (e : c j = 1#1) : select c a b j = a j := by
  unfold select
  rw [e]
  rfl

/-- The one-hot vectors at a place: 1 where the token is the column, 0 elsewhere. -/
theorem oneHot_apply (j : S512x512x64.Idx) : oneHot tok j = if (tok (at2 j)).toNat = (j 2).val then 1 else 0 := by
  have hj : (j 2).val < 64 := (j 2).isLt
  have e : oneHot tok j = (((IntOp.cmpi .eq (tok (at2 j)) (BitVec.ofNat 32 (j 2).val)).toNat : ℝ) : EReal) := by
    unfold oneHot
    show ((((IntOp.cmpi .eq _ _ : BitVec 1)).toNat : ℝ) : EReal) = _
    rw [broadcastInDim_apply _ _ _ j (fun | 0 => j 0 | 1 => j 1 | 2 => (0 : Fin 1) : S512x512x1.Idx) (fun a => match a with | 0 => rfl | 1 => rfl | 2 => rfl),
      broadcastInDim_apply _ _ _ _ (at2 j) (fun a => match a with | 0 => rfl | 1 => rfl),
      broadcastInDim_apply _ _ _ j (fun | 0 => (0 : Fin 1) | 1 => (0 : Fin 1) | 2 => j 2 : S1x1x64.Idx) (fun a => match a with | 0 => rfl | 1 => rfl | 2 => rfl)]
    rfl
  rw [e]
  by_cases hv : (tok (at2 j)).toNat = (j 2).val
  · rw [if_pos hv, ← hv, BitVec.ofNat_toNat, BitVec.setWidth_eq]
    simp [IntOp.cmpi]
  · rw [if_neg hv]
    have : (tok (at2 j) == BitVec.ofNat 32 (j 2).val) = false := by
      rw [beq_eq_false_iff_ne]
      intro x
      refine hv ?_
      rw [x, BitVec.toNat_ofNat]
      omega
    simp [IntOp.cmpi, this]

variable {tok} (h : ∀ j, (tok j).toNat < 21)
include h

/-- Tokens that name rows are taken as they are. -/
theorem wrapped_eq : wrapped tok = tok := by
  funext j
  have hj := h j
  have e : IntOp.cmpi .slt (tok j) 0#32 = 0#1 := by
    simp only [IntOp.cmpi]
    have : (tok j).slt 0#32 = false := by
      rw [BitVec.slt_eq_decide, decide_eq_false_iff_not, BitVec.toInt_eq_toNat_cond]
      have : (0#32).toInt = 0 := by decide
      omega
    rw [this]
    rfl
  show (if IntOp.cmpi .slt (tok j) 0#32 = 1#1 then _ else tok j) = tok j
  rw [e]
  rfl

/-- The row number looked up at a place is the token there. -/
theorem starts_apply (j : S512x512x1.Idx) : starts tok j = tok (fun | 0 => j 0 | 1 => j 1 : S512x512.Idx) := by
  unfold starts
  rw [wrapped_eq h]
  exact broadcastInDim_apply _ _ _ _ _ fun a => match a with | 0 => rfl | 1 => rfl

/-- Every row number is one of the table's. -/
theorem inRows_apply (j : S512x512x1.Idx) : inRows tok j = 1#1 := by
  have hj := h (fun | 0 => j 0 | 1 => j 1 : S512x512.Idx)
  show IntOp.andi (IntOp.cmpi .sge (starts tok j) 0#32) (IntOp.cmpi .sle (starts tok j) 20#32) = 1#1
  rw [starts_apply h]
  generalize tok (fun | 0 => j 0 | 1 => j 1 : S512x512.Idx) = v at hj
  have e1 : (0#32).sle v = true := by
    rw [BitVec.sle_eq_decide, decide_eq_true_eq, BitVec.toInt_eq_toNat_cond, BitVec.toInt_eq_toNat_cond]
    simp only [BitVec.toNat_ofNat]
    omega
  have e2 : v.sle 20#32 = true := by
    rw [BitVec.sle_eq_decide, decide_eq_true_eq, BitVec.toInt_eq_toNat_cond, BitVec.toInt_eq_toNat_cond]
    simp only [BitVec.toNat_ofNat]
    omega
  simp only [IntOp.cmpi, e1, e2]
  rfl

/-- So no row looked up is masked. -/
theorem mask_apply (j : S512x512.Idx) : Host.reduce IntOp.andi (inRows tok) (constantI S_ 1 1#1) reducesTo_S512x512x1_S512x512_d2 h_S_ j = 1#1 := by
  unfold Host.reduce
  show List.foldl (fun r n => IntOp.andi r (inRows tok (S512x512x1.rowMajor.symm n))) 1#1 _ = 1#1
  generalize List.filter _ _ = l
  induction l with
  | nil => rfl
  | cons i l ih =>
    rw [List.foldl_cons, inRows_apply h]
    exact ih

/-- Row `tok` of the table, at column `j 2`. -/
def place (j : S512x512x64.Idx) : S21x64.Idx := fun | 0 => ⟨(tok (at2 j)).toNat, h _⟩ | 1 => j 2

/-- The gather's dimensions. -/
abbrev gDims : GatherDims S21x64 S512x512x1 S512x512x64 := gather_S21x64_S512x512x1_S512x512x64_2_0_n_n_0_2_164

/-- The gather reads the table's row that the token names. -/
theorem gather_apply (j : S512x512x64.Idx) : Host.gather gather_S21x64_S512x512x1_S512x512x64_2_0_n_n_0_2_164 tbl (starts tok) j = tbl (place h j) := by
  have hs := starts_apply h (fun | 0 => j 0 | 1 => j 1 | 2 => (0 : Fin 1) : S512x512x1.Idx)
  have hlt := h (at2 j)
  unfold Host.gather
  refine congrArg tbl (funext fun a => Fin.ext ?_)
  show gDims.start j (starts tok) a + gDims.batchCoord j a + gDims.offCoord j a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ gDims.startIndexMap from List.mem_singleton.mpr rfl)]
    have e : gDims.siIdx j ⟨List.idxOf (0 : Fin 2) gDims.startIndexMap, List.idxOf_lt_length_iff.2 (List.mem_singleton.mpr rfl)⟩ = (fun | 0 => j 0 | 1 => j 1 | 2 => (0 : Fin 1) : S512x512x1.Idx) := by
      funext b
      refine Fin.ext ?_
      match b with
      | 0 => rfl
      | 1 => rfl
      | 2 => rfl
    rw [e, hs]
    show min (tok (at2 j)).toInt.toNat (21 - 1) + 0 + 0 = (tok (at2 j)).toNat
    rw [BitVec.toInt_eq_toNat_cond]
    omega
  | 1 =>
    unfold GatherDims.start GatherDims.offCoord
    rw [dif_neg (show (1 : Fin 2) ∉ gDims.startIndexMap by decide), dif_pos (show (1 : Fin 2) ∈ gDims.sKept by decide)]
    show 0 + 0 + (j 2).val = (j 2).val
    omega

/-- The rows looked up, at a place: the table's word at the token's row. -/
theorem taken_apply (j : S512x512x64.Idx) : taken tok tbl j = tbl (place h j) := by
  unfold taken
  rw [select_one, gather_apply tbl h]
  rw [broadcastInDim_apply _ _ _ j (at2 j) (fun a => match a with | 0 => rfl | 1 => rfl), mask_apply h]

/-- The reference's result at a place: the table's word at the token's row, and one more where the token is the column. -/
theorem value_apply (j : S512x512x64.Idx) : value tok tbl j = tbl (place h j) + if (tok (at2 j)).toNat = (j 2).val then 1 else 0 := by
  rw [← oneHot_apply, ← taken_apply tbl h]
  rfl

end Cert.Proof.Ref
-- ==== Proof.Equation.lean ====
/-
  The certificate's precondition, read as a bound on the tokens, and the equation of the two results over the reals.
-/
module

public import proofs.«01_k».proof.Proof.Result
public import proofs.«01_k».proof.Proof.Reference
public import proofs.«01_k».proof.Proof.Gen.Pre_tokens_in_range

@[expose] public section

noncomputable section

namespace Cert.Proof.Fill

open Cert.KernelIdeal Cert.KernelIdeal.Gen
open Idealize.ShloMosaic

/-- The conjunction of two truth values is 1 only if both are true. -/
theorem both_of_andi (a b : Bool) (e : IntOp.andi (BitVec.ofBool a) (BitVec.ofBool b) = 1#1) : a = true ∧ b = true := by
  revert e
  cases a <;> cases b <;> decide

/-- A word that is at least 0 and below 21, as a signed number, is below 21 as a natural number. -/
theorem toNat_lt_of_bounds (v : BitVec 32) (e : IntOp.andi (IntOp.cmpi .sge v 0#32) (IntOp.cmpi .slt v 21#32) = 1#1) : v.toNat < 21 := by
  simp only [IntOp.cmpi] at e
  obtain ⟨h0, h1⟩ := both_of_andi _ _ e
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat] at h0 h1
  omega

/-- Where the precondition holds of every device's arguments, every token names a row of the table. -/
theorem ok_of_pre {F : FTy → Type} [FloatOps F] (m : (ℓ : Loc nD τ sig) → Buf (Elt F) ℓ)
    (h : ∀ c : Dev nD, Cert.Pre_tokens_in_range.fn (F := F) (m (aLoc c)) (m (tLoc c)) = fun _ => 1#1) : PreOK m :=
  fun d j => toNat_lt_of_bounds _ (congrFun (h d) j)

/-- The table's word, and one more where the token is the column. -/
theorem TB_ideal (tb : ℕ → ℕ → Ideal .f32) (v d : ℕ) : TB (F := Ideal) tb v d = tb v d + if v = d then 1 else 0 := by
  rw [TB_apply]
  by_cases e : v = d
  · rw [if_pos e, if_pos e, Elt.idxAdd_f32]
    show tb v d + Ideal.ofBits .f32 0x3F800000#32 = tb v d + 1
    have : Ideal.ofBits .f32 0x3F800000#32 = 1 := by
      simp [Ideal.ofBits, Ideal.ieee, -EReal.coe_mul]
      norm_num
    rw [this]
  · rw [if_neg e, if_neg e, add_zero]

/-- The program's result is the reference's, of the same tokens and the same table. -/
theorem RES_eq (m : (ℓ : Loc nD τ sig) → Buf (Elt Ideal) ℓ) (h : PreOK m) (d : Dev nD) :
    RES m d = Ref.value (m (aLoc d)) (m (tLoc d)) := by
  funext j
  have hv := h d (Ref.at2 j)
  have hj : (j 2).val < 64 := (j 2).isLt
  have ht : tokens m d (j 0).val (j 1).val = (m (aLoc d) (Ref.at2 j) : BitVec 32).toNat := by
    unfold tokens
    refine congrArg (fun i => (m (aLoc d) i : BitVec 32).toNat) (funext fun a => Fin.ext ?_)
    match a with
    | 0 => exact Nat.mod_eq_of_lt (j 0).isLt
    | 1 => exact Nat.mod_eq_of_lt (j 1).isLt
  have hw : table m d (m (aLoc d) (Ref.at2 j) : BitVec 32).toNat (j 2).val = m (tLoc d) (Ref.place (tok := m (aLoc d)) (h d) j) := by
    unfold table
    refine congrArg (m (tLoc d)) (funext fun a => Fin.ext ?_)
    match a with
    | 0 => exact Nat.mod_eq_of_lt hv
    | 1 => exact Nat.mod_eq_of_lt hj
  rw [RES_apply, Ref.value_apply _ (h d), TB_ideal, ht, hw]

end Cert.Proof.Fill
-- ==== Proof.lean ====
/-
  The proof of `Cert.Claim`: the program runs to its end and leaves its arguments alone, at the machine's floats and at
  the reals; so does the reference; and over the reals the two results are equal. The program's run is
  `Cert.Proof.Fill.run_main` (Proof/Launch.lean), used three times; the equation is `Cert.Proof.Fill.RES_eq`
  (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tokens_in_range
public import proofs.«01_k».proof.Proof.Equation
public import Idealize.ShloMosaic.Adequacy
public import Idealize.ShloMosaic.Init

@[expose] public section

noncomputable section

namespace Cert.Proof

open Idealize.ShloMosaic Idealize.SL.Sem

/-- The program at the machine's floats runs and keeps its arguments; its counters end at zero. -/
theorem frame_kernel : Cert.quiescent_Kernel := fun m ρ h =>
  (θ_run Cert.KernelIdeal.defs _ _).mono (fun _ q => ⟨fun c => ⟨(q.1 c).1, (q.1 c).2.1⟩, q.2⟩)
    (Fill.run_main (F := Bits) m ρ (Fill.ok_of_pre m h))

/-- The same over the reals. -/
theorem frame_ideal : Cert.quiescent_KernelIdeal := fun m ρ h =>
  (θ_run Cert.KernelIdeal.defs _ _).mono (fun _ q => ⟨fun c => ⟨(q.1 c).1, (q.1 c).2.1⟩, q.2⟩)
    (Fill.run_main (F := Ideal) m ρ (Fill.ok_of_pre m h))

/-- The reference runs over the reals and keeps its arguments; it has no counter. -/
theorem frame_reference : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

/-- So it does from tokens in range. -/
theorem frame_reference_pre : Cert.quiescent_ReferenceIdeal_pre_tokens_in_range := fun m ρ _ => frame_reference m ρ trivial

/-- From the same tokens and the same table, the program and the reference end with equal results over the reals. -/
theorem equal_results : Cert.algebraic_KernelIdeal_ReferenceIdeal := by
  intro m ρ m' ρ' h same
  have ok := Fill.ok_of_pre m h
  refine ⟨fun c => Fill.RES m c, (θ_run Cert.KernelIdeal.defs _ _).mono (fun _ q c => ⟨(q.1 c).2.2, (q.1 c).1, (q.1 c).2.1⟩)
    (Fill.run_main (F := Ideal) m ρ ok), ?_⟩
  refine (θ_run Cert.ReferenceIdeal.defs _ _).mono (fun _ q c => ⟨(q c).1.trans ?_, (q c).2⟩) (Cert.ReferenceIdeal.Value.run (F := Ideal) m' ρ')
  refine Eq.trans ?_ (Fill.RES_eq m ok c).symm
  rw [(same c).1, (same c).2]
  rfl

/-- Everything that the certificate claims. -/
theorem claim : Cert.Claim := ⟨Cert.Kernel.Gen.facts, Cert.KernelIdeal.Gen.facts, Cert.ReferenceIdeal.Gen.facts, Cert.Pre_tokens_in_range.Gen.facts,
  frame_kernel, frame_ideal, frame_reference, frame_reference_pre, trivial, equal_results⟩

end Cert.Proof

end
